-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v132)) (v1 : (c : Dev Cert.KernelIdeal.nD) → Buf (Elt Ideal) ((c.tc : Thread Cert.KernelIdeal.nD Cert.KernelIdeal.τ).loc Cert.KernelIdeal.main_v133)) (v2 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_v133) = v1 c
          ∧ r.2.mem ((c.tc : Thread Cert.KernelIdeal.nD Cert.KernelIdeal.τ).loc Cert.KernelIdeal.main_v136) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_v181) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x80x128x128 : Shape := ⟨4, ![16, 80, 128, 128]⟩
abbrev S16x2x128x128 : Shape := ⟨4, ![16, 2, 128, 128]⟩
abbrev S1280x128x128 : Shape := ⟨3, ![1280, 128, 128]⟩
abbrev S80x128x128 : Shape := ⟨3, ![80, 128, 128]⟩
abbrev S80x1x128 : Shape := ⟨3, ![80, 1, 128]⟩
abbrev S80x127x128 : Shape := ⟨3, ![80, 127, 128]⟩
abbrev S80x128x1 : Shape := ⟨3, ![80, 128, 1]⟩
abbrev S80x128x127 : Shape := ⟨3, ![80, 128, 127]⟩
abbrev S16x1310720 : Shape := ⟨2, ![16, 1310720]⟩
abbrev S16x100 : Shape := ⟨2, ![16, 100]⟩
abbrev S_ : Shape := ⟨0, ![]⟩
abbrev S16x100x1 : Shape := ⟨3, ![16, 100, 1]⟩
abbrev S16 : Shape := ⟨1, ![16]⟩
abbrev S16x1 : Shape := ⟨2, ![16, 1]⟩
abbrev S16x100x4 : Shape := ⟨3, ![16, 100, 4]⟩

abbrev nBuf : Space → Nat
  | .hbm => 262
  | .vmem => 4
  | .smem => 0
  | _ => 0

abbrev hbmTy0_0 (i : Nat) : BufTy := match i % 128 with
  | 0 => ⟨S16x80x128x128, .f32⟩
  | 1 => ⟨S16x2x128x128, .f32⟩
  | 2 => ⟨S16x2x128x128, .f32⟩
  | 3 => ⟨S1280x128x128, .f32⟩
  | 4 => ⟨S1280x128x128, .f32⟩
  | 5 => ⟨S16x80x128x128, .f32⟩
  | 6 => ⟨S16x1310720, .f32⟩
  | 7 => ⟨S16x100, .f32⟩
  | 8 => ⟨S16x100, .i32⟩
  | 9 => ⟨S_, .i32⟩
  | 10 => ⟨S_, .i32⟩
  | 11 => ⟨S16x100, .i32⟩
  | 12 => ⟨S16x100, .i32⟩
  | 13 => ⟨S16x100, .i32⟩
  | 14 => ⟨S_, .i32⟩
  | 15 => ⟨S16x100, .i32⟩
  | 16 => ⟨S16x100, .i1⟩
  | 17 => ⟨S16x100, .i32⟩
  | 18 => ⟨S16x100, .i32⟩
  | 19 => ⟨S_, .i32⟩
  | 20 => ⟨S16x100, .i32⟩
  | 21 => ⟨S16x100, .i1⟩
  | 22 => ⟨S16x100, .i1⟩
  | 23 => ⟨S_, .i32⟩
  | 24 => ⟨S16x100, .i32⟩
  | 25 => ⟨S16x100, .i32⟩
  | 26 => ⟨S16x100, .i32⟩
  | 27 => ⟨S16x100, .f32⟩
  | 28 => ⟨S16x100x1, .f32⟩
  | 29 => ⟨S_, .i32⟩
  | 30 => ⟨S_, .i32⟩
  | 31 => ⟨S_, .i32⟩
  | 32 => ⟨S_, .i1⟩
  | 33 => ⟨S_, .i32⟩
  | 34 => ⟨S_, .i32⟩
  | 35 => ⟨S16x100, .i32⟩
  | 36 => ⟨S16x100, .i32⟩
  | 37 => ⟨S_, .i32⟩
  | 38 => ⟨S16x100, .i32⟩
  | 39 => ⟨S16x100, .i1⟩
  | 40 => ⟨S_, .i32⟩
  | 41 => ⟨S16x100, .i32⟩
  | 42 => ⟨S16x100, .i1⟩
  | 43 => ⟨S_, .i32⟩
  | 44 => ⟨S_, .i1⟩
  | 45 => ⟨S16x100, .i1⟩
  | 46 => ⟨S16x100, .i1⟩
  | 47 => ⟨S16x100, .i1⟩
  | 48 => ⟨S16x100, .i32⟩
  | 49 => ⟨S16x100, .i32⟩
  | 50 => ⟨S16x100, .i32⟩
  | 51 => ⟨S_, .i32⟩
  | 52 => ⟨S_, .i32⟩
  | 53 => ⟨S16x100, .i32⟩
  | 54 => ⟨S16x100, .i32⟩
  | 55 => ⟨S16x100, .i32⟩
  | 56 => ⟨S_, .i32⟩
  | 57 => ⟨S16x100, .i32⟩
  | 58 => ⟨S16x100, .i1⟩
  | 59 => ⟨S16x100, .i32⟩
  | 60 => ⟨S16x100, .i32⟩
  | 61 => ⟨S_, .i32⟩
  | 62 => ⟨S16x100, .i32⟩
  | 63 => ⟨S16x100, .i1⟩
  | 64 => ⟨S16x100, .i1⟩
  | 65 => ⟨S_, .i32⟩
  | 66 => ⟨S16x100, .i32⟩
  | 67 => ⟨S16x100, .i32⟩
  | 68 => ⟨S16x100, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S16x100, .i32⟩
  | 76 => ⟨S16x100, .i32⟩
  | 77 => ⟨S_, .i32⟩
  | 78 => ⟨S16x100, .i32⟩
  | 79 => ⟨S16x100, .i1⟩
  | 80 => ⟨S_, .i32⟩
  | 81 => ⟨S16x100, .i32⟩
  | 82 => ⟨S16x100, .i1⟩
  | 83 => ⟨S_, .i32⟩
  | 84 => ⟨S_, .i1⟩
  | 85 => ⟨S16x100, .i1⟩
  | 86 => ⟨S16x100, .i1⟩
  | 87 => ⟨S16x100, .i1⟩
  | 88 => ⟨S16x100, .i32⟩
  | 89 => ⟨S16x100, .i32⟩
  | 90 => ⟨S16x100, .i32⟩
  | 91 => ⟨S16, .i32⟩
  | 92 => ⟨S16x1, .i32⟩
  | 93 => ⟨S_, .i32⟩
  | 94 => ⟨S16x1, .i32⟩
  | 95 => ⟨S16x1, .i1⟩
  | 96 => ⟨S_, .i32⟩
  | 97 => ⟨S16x1, .i32⟩
  | 98 => ⟨S16x1, .i32⟩
  | 99 => ⟨S16x1, .i32⟩
  | 100 => ⟨S_, .i32⟩
  | 101 => ⟨S16x100, .i32⟩
  | 102 => ⟨S16x100, .i1⟩
  | 103 => ⟨S_, .i32⟩
  | 104 => ⟨S16x100, .i32⟩
  | 105 => ⟨S16x100, .i32⟩
  | 106 => ⟨S16x100, .i32⟩
  | 107 => ⟨S_, .i32⟩
  | 108 => ⟨S16x100, .i32⟩
  | 109 => ⟨S16x100, .i1⟩
  | 110 => ⟨S_, .i32⟩
  | 111 => ⟨S16x100, .i32⟩
  | 112 => ⟨S16x100, .i32⟩
  | 113 => ⟨S16x100, .i32⟩
  | 114 => ⟨S16x100, .i32⟩
  | 115 => ⟨S_, .i32⟩
  | 116 => ⟨S16x100, .i32⟩
  | 117 => ⟨S16x100, .i32⟩
  | 118 => ⟨S16x100x1, .i32⟩
  | 119 => ⟨S16x100x1, .i32⟩
  | 120 => ⟨S16x100x1, .i32⟩
  | 121 => ⟨S16x100x1, .i32⟩
  | 122 => ⟨S16x100x4, .i32⟩
  | 123 => ⟨S16x100, .f32⟩
  | 124 => ⟨S_, .i32⟩
  | 125 => ⟨S16x1, .i32⟩
  | 126 => ⟨S16x1, .i1⟩
  | 127 => ⟨S_, .i32⟩
  | _ => ⟨S16x80x128x128, .f32⟩

abbrev hbmTy0_1 (i : Nat) : BufTy := match i % 128 with
  | 0 => ⟨S16x1, .i32⟩
  | 1 => ⟨S16x1, .i32⟩
  | 2 => ⟨S16x1, .i32⟩
  | 3 => ⟨S_, .i32⟩
  | 4 => ⟨S16x100, .i32⟩
  | 5 => ⟨S16x100, .i1⟩
  | 6 => ⟨S_, .i32⟩
  | 7 => ⟨S16x100, .i32⟩
  | 8 => ⟨S16x100, .i32⟩
  | 9 => ⟨S16x100, .i32⟩
  | 10 => ⟨S_, .i32⟩
  | 11 => ⟨S16x100, .i32⟩
  | 12 => ⟨S16x100, .i1⟩
  | 13 => ⟨S_, .i32⟩
  | 14 => ⟨S16x100, .i32⟩
  | 15 => ⟨S16x100, .i32⟩
  | 16 => ⟨S16x100, .i32⟩
  | 17 => ⟨S16x100, .i32⟩
  | 18 => ⟨S_, .i32⟩
  | 19 => ⟨S16x100, .i32⟩
  | 20 => ⟨S16x100, .i32⟩
  | 21 => ⟨S16x100x1, .i32⟩
  | 22 => ⟨S16x100x1, .i32⟩
  | 23 => ⟨S16x100x1, .i32⟩
  | 24 => ⟨S16x100x1, .i32⟩
  | 25 => ⟨S16x100x4, .i32⟩
  | 26 => ⟨S16x100, .f32⟩
  | 27 => ⟨S_, .i32⟩
  | 28 => ⟨S16x1, .i32⟩
  | 29 => ⟨S16x1, .i1⟩
  | 30 => ⟨S_, .i32⟩
  | 31 => ⟨S16x1, .i32⟩
  | 32 => ⟨S16x1, .i32⟩
  | 33 => ⟨S16x1, .i32⟩
  | 34 => ⟨S_, .i32⟩
  | 35 => ⟨S16x100, .i32⟩
  | 36 => ⟨S16x100, .i1⟩
  | 37 => ⟨S_, .i32⟩
  | 38 => ⟨S16x100, .i32⟩
  | 39 => ⟨S16x100, .i32⟩
  | 40 => ⟨S16x100, .i32⟩
  | 41 => ⟨S_, .i32⟩
  | 42 => ⟨S16x100, .i32⟩
  | 43 => ⟨S16x100, .i1⟩
  | 44 => ⟨S_, .i32⟩
  | 45 => ⟨S16x100, .i32⟩
  | 46 => ⟨S16x100, .i32⟩
  | 47 => ⟨S16x100, .i32⟩
  | 48 => ⟨S16x100, .i32⟩
  | 49 => ⟨S_, .i32⟩
  | 50 => ⟨S16x100, .i32⟩
  | 51 => ⟨S16x100, .i32⟩
  | 52 => ⟨S16x100x1, .i32⟩
  | 53 => ⟨S16x100x1, .i32⟩
  | 54 => ⟨S16x100x1, .i32⟩
  | 55 => ⟨S16x100x1, .i32⟩
  | 56 => ⟨S16x100x4, .i32⟩
  | 57 => ⟨S16x100, .f32⟩
  | 58 => ⟨S_, .i32⟩
  | 59 => ⟨S16x1, .i32⟩
  | 60 => ⟨S16x1, .i1⟩
  | 61 => ⟨S_, .i32⟩
  | 62 => ⟨S16x1, .i32⟩
  | 63 => ⟨S16x1, .i32⟩
  | 64 => ⟨S16x1, .i32⟩
  | 65 => ⟨S_, .i32⟩
  | 66 => ⟨S16x100, .i32⟩
  | 67 => ⟨S16x100, .i1⟩
  | 68 => ⟨S_, .i32⟩
  | 69 => ⟨S16x100, .i32⟩
  | 70 => ⟨S16x100, .i32⟩
  | 71 => ⟨S16x100, .i32⟩
  | 72 => ⟨S_, .i32⟩
  | 73 => ⟨S16x100, .i32⟩
  | 74 => ⟨S16x100, .i1⟩
  | 75 => ⟨S_, .i32⟩
  | 76 => ⟨S16x100, .i32⟩
  | 77 => ⟨S16x100, .i32⟩
  | 78 => ⟨S16x100, .i32⟩
  | 79 => ⟨S16x100, .i32⟩
  | 80 => ⟨S_, .i32⟩
  | 81 => ⟨S16x100, .i32⟩
  | 82 => ⟨S16x100, .i32⟩
  | 83 => ⟨S16x100x1, .i32⟩
  | 84 => ⟨S16x100x1, .i32⟩
  | 85 => ⟨S16x100x1, .i32⟩
  | 86 => ⟨S16x100x1, .i32⟩
  | 87 => ⟨S16x100x4, .i32⟩
  | 88 => ⟨S16x100, .f32⟩
  | 89 => ⟨S16x100, .f32⟩
  | 90 => ⟨S16x100, .f32⟩
  | 91 => ⟨S16x100, .f32⟩
  | 92 => ⟨S16x100, .f32⟩
  | 93 => ⟨S_, .f32⟩
  | 94 => ⟨S16x100, .f32⟩
  | 95 => ⟨S16x100, .f32⟩
  | 96 => ⟨S16x100, .f32⟩
  | 97 => ⟨S_, .f32⟩
  | 98 => ⟨S16x100, .f32⟩
  | 99 => ⟨S16x100, .f32⟩
  | 100 => ⟨S16x100, .f32⟩
  | 101 => ⟨S_, .f32⟩
  | 102 => ⟨S16x100, .f32⟩
  | 103 => ⟨S16x100, .f32⟩
  | 104 => ⟨S16x100, .f32⟩
  | 105 => ⟨S_, .f32⟩
  | 106 => ⟨S16x100, .f32⟩
  | 107 => ⟨S16x100, .f32⟩
  | 108 => ⟨S16x100, .f32⟩
  | 109 => ⟨S16x100x1, .f32⟩
  | 110 => ⟨S16x100x1, .f32⟩
  | 111 => ⟨S16x100x1, .f32⟩
  | 112 => ⟨S16x100x1, .f32⟩
  | 113 => ⟨S16x100x4, .f32⟩
  | 114 => ⟨S16x100x1, .f32⟩
  | 115 => ⟨S_, .f32⟩
  | 116 => ⟨S16x100x1, .f32⟩
  | 117 => ⟨S16x100x1, .i1⟩
  | 118 => ⟨S_, .f32⟩
  | 119 => ⟨S_, .f32⟩
  | 120 => ⟨S16x100x1, .f32⟩
  | 121 => ⟨S16x100x1, .f32⟩
  | 122 => ⟨S_, .f32⟩
  | 123 => ⟨S_, .f32⟩
  | 124 => ⟨S16x100x1, .f32⟩
  | 125 => ⟨S16x100x1, .f32⟩
  | 126 => ⟨S_, .f32⟩
  | 127 => ⟨S_, .f32⟩
  | _ => ⟨S16x80x128x128, .f32⟩

abbrev hbmTy0_2 (i : Nat) : BufTy := match i % 128 with
  | 0 => ⟨S16x100x4, .i1⟩
  | 1 => ⟨S16x100x4, .f32⟩
  | 2 => ⟨S16x100x4, .f32⟩
  | 3 => ⟨S_, .f32⟩
  | 4 => ⟨S16x100x4, .f32⟩
  | 5 => ⟨S16x100x4, .f32⟩
  | _ => ⟨S16x80x128x128, .f32⟩

abbrev hbmTy (i : Nat) : BufTy := match i / 128 with
  | 0 => hbmTy0_0 i
  | 1 => hbmTy0_1 i
  | 2 => hbmTy0_2 i
  | _ => ⟨S16x80x128x128, .f32⟩

abbrev bufTy : (tb : Table) → Fin (tcTables nBuf tb) → BufTy
  | .hbm, ⟨i, _⟩ => hbmTy i
  | .local _ .vmem, ⟨0, _⟩ => ⟨S80x128x128, .f32⟩
  | .local _ .vmem, ⟨1, _⟩ => ⟨S80x128x128, .f32⟩
  | .local _ .vmem, ⟨2, _⟩ => ⟨S80x128x128, .f32⟩
  | .local _ .vmem, ⟨3, _⟩ => ⟨S80x128x128, .f32⟩
  | _, _ => ⟨S16x80x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_1 : Ref sig .tc := ⟨.hbm, 37, rfl⟩
abbrev main_call1_v5 : Ref sig .tc := ⟨.hbm, 38, rfl⟩
abbrev main_call1_v6 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_c_3 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_v7 : Ref sig .tc := ⟨.hbm, 50, rfl⟩
abbrev main_c_1 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v8 : Ref sig .tc := ⟨.hbm, 68, rfl⟩
abbrev main_c_2 : Ref sig .tc := ⟨.hbm, 69, rfl⟩
abbrev main_call3_v0 : Ref sig .tc := ⟨.hbm, 70, rfl⟩
abbrev main_call3_c : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_c_1 : Ref sig .tc := ⟨.hbm, 77, rfl⟩
abbrev main_call3_v5 : Ref sig .tc := ⟨.hbm, 78, rfl⟩
abbrev main_call3_v6 : Ref sig .tc := ⟨.hbm, 79, rfl⟩
abbrev main_call3_c_2 : Ref sig .tc := ⟨.hbm, 80, rfl⟩
abbrev main_call3_v7 : Ref sig .tc := ⟨.hbm, 81, rfl⟩
abbrev main_call3_v8 : Ref sig .tc := ⟨.hbm, 82, rfl⟩
abbrev main_call3_c_3 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_v12 : Ref sig .tc := ⟨.hbm, 87, rfl⟩
abbrev main_call3_v13 : Ref sig .tc := ⟨.hbm, 88, rfl⟩
abbrev main_call3_v14 : Ref sig .tc := ⟨.hbm, 89, rfl⟩
abbrev main_v9 : Ref sig .tc := ⟨.hbm, 90, rfl⟩
abbrev main_v10 : Ref sig .tc := ⟨.hbm, 91, rfl⟩
abbrev main_v11 : Ref sig .tc := ⟨.hbm, 92, rfl⟩
abbrev main_c_3 : Ref sig .tc := ⟨.hbm, 93, rfl⟩
abbrev main_v12 : Ref sig .tc := ⟨.hbm, 94, rfl⟩
abbrev main_v13 : Ref sig .tc := ⟨.hbm, 95, rfl⟩
abbrev main_c_4 : Ref sig .tc := ⟨.hbm, 96, rfl⟩
abbrev main_v14 : Ref sig .tc := ⟨.hbm, 97, rfl⟩
abbrev main_v15 : Ref sig .tc := ⟨.hbm, 98, rfl⟩
abbrev main_v16 : Ref sig .tc := ⟨.hbm, 99, rfl⟩
abbrev main_c_5 : Ref sig .tc := ⟨.hbm, 100, rfl⟩
abbrev main_v17 : Ref sig .tc := ⟨.hbm, 101, rfl⟩
abbrev main_v18 : Ref sig .tc := ⟨.hbm, 102, rfl⟩
abbrev main_c_6 : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_c_7 : Ref sig .tc := ⟨.hbm, 107, rfl⟩
abbrev main_v22 : Ref sig .tc := ⟨.hbm, 108, rfl⟩
abbrev main_v23 : Ref sig .tc := ⟨.hbm, 109, rfl⟩
abbrev main_c_8 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_c_9 : Ref sig .tc := ⟨.hbm, 115, rfl⟩
abbrev main_v28 : Ref sig .tc := ⟨.hbm, 116, rfl⟩
abbrev main_v29 : Ref sig .tc := ⟨.hbm, 117, rfl⟩
abbrev main_v30 : Ref sig .tc := ⟨.hbm, 118, rfl⟩
abbrev main_v31 : Ref sig .tc := ⟨.hbm, 119, rfl⟩
abbrev main_v32 : Ref sig .tc := ⟨.hbm, 120, rfl⟩
abbrev main_v33 : Ref sig .tc := ⟨.hbm, 121, rfl⟩
abbrev main_v34 : Ref sig .tc := ⟨.hbm, 122, rfl⟩
abbrev main_v35 : Ref sig .tc := ⟨.hbm, 123, rfl⟩
abbrev main_c_10 : Ref sig .tc := ⟨.hbm, 124, rfl⟩
abbrev main_v36 : Ref sig .tc := ⟨.hbm, 125, rfl⟩
abbrev main_v37 : Ref sig .tc := ⟨.hbm, 126, rfl⟩
abbrev main_c_11 : Ref sig .tc := ⟨.hbm, 127, rfl⟩
abbrev main_v38 : Ref sig .tc := ⟨.hbm, 128, rfl⟩
abbrev main_v39 : Ref sig .tc := ⟨.hbm, 129, rfl⟩
abbrev main_v40 : Ref sig .tc := ⟨.hbm, 130, rfl⟩
abbrev main_c_12 : Ref sig .tc := ⟨.hbm, 131, rfl⟩
abbrev main_v41 : Ref sig .tc := ⟨.hbm, 132, rfl⟩
abbrev main_v42 : Ref sig .tc := ⟨.hbm, 133, rfl⟩
abbrev main_c_13 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_c_14 : Ref sig .tc := ⟨.hbm, 138, rfl⟩
abbrev main_v46 : Ref sig .tc := ⟨.hbm, 139, rfl⟩
abbrev main_v47 : Ref sig .tc := ⟨.hbm, 140, rfl⟩
abbrev main_c_15 : Ref sig .tc := ⟨.hbm, 141, rfl⟩
abbrev main_v48 : Ref sig .tc := ⟨.hbm, 142, rfl⟩
abbrev main_v49 : Ref sig .tc := ⟨.hbm, 143, rfl⟩
abbrev main_v50 : Ref sig .tc := ⟨.hbm, 144, rfl⟩
abbrev main_v51 : Ref sig .tc := ⟨.hbm, 145, rfl⟩
abbrev main_c_16 : Ref sig .tc := ⟨.hbm, 146, rfl⟩
abbrev main_v52 : Ref sig .tc := ⟨.hbm, 147, rfl⟩
abbrev main_v53 : Ref sig .tc := ⟨.hbm, 148, rfl⟩
abbrev main_v54 : Ref sig .tc := ⟨.hbm, 149, rfl⟩
abbrev main_v55 : Ref sig .tc := ⟨.hbm, 150, rfl⟩
abbrev main_v56 : Ref sig .tc := ⟨.hbm, 151, rfl⟩
abbrev main_v57 : Ref sig .tc := ⟨.hbm, 152, rfl⟩
abbrev main_v58 : Ref sig .tc := ⟨.hbm, 153, rfl⟩
abbrev main_v59 : Ref sig .tc := ⟨.hbm, 154, rfl⟩
abbrev main_c_17 : Ref sig .tc := ⟨.hbm, 155, rfl⟩
abbrev main_v60 : Ref sig .tc := ⟨.hbm, 156, rfl⟩
abbrev main_v61 : Ref sig .tc := ⟨.hbm, 157, rfl⟩
abbrev main_c_18 : Ref sig .tc := ⟨.hbm, 158, rfl⟩
abbrev main_v62 : Ref sig .tc := ⟨.hbm, 159, rfl⟩
abbrev main_v63 : Ref sig .tc := ⟨.hbm, 160, rfl⟩
abbrev main_v64 : Ref sig .tc := ⟨.hbm, 161, rfl⟩
abbrev main_c_19 : Ref sig .tc := ⟨.hbm, 162, rfl⟩
abbrev main_v65 : Ref sig .tc := ⟨.hbm, 163, rfl⟩
abbrev main_v66 : Ref sig .tc := ⟨.hbm, 164, rfl⟩
abbrev main_c_20 : Ref sig .tc := ⟨.hbm, 165, rfl⟩
abbrev main_v67 : Ref sig .tc := ⟨.hbm, 166, rfl⟩
abbrev main_v68 : Ref sig .tc := ⟨.hbm, 167, rfl⟩
abbrev main_v69 : Ref sig .tc := ⟨.hbm, 168, rfl⟩
abbrev main_c_21 : Ref sig .tc := ⟨.hbm, 169, rfl⟩
abbrev main_v70 : Ref sig .tc := ⟨.hbm, 170, rfl⟩
abbrev main_v71 : Ref sig .tc := ⟨.hbm, 171, rfl⟩
abbrev main_c_22 : Ref sig .tc := ⟨.hbm, 172, rfl⟩
abbrev main_v72 : Ref sig .tc := ⟨.hbm, 173, rfl⟩
abbrev main_v73 : Ref sig .tc := ⟨.hbm, 174, rfl⟩
abbrev main_v74 : Ref sig .tc := ⟨.hbm, 175, rfl⟩
abbrev main_v75 : Ref sig .tc := ⟨.hbm, 176, rfl⟩
abbrev main_c_23 : Ref sig .tc := ⟨.hbm, 177, rfl⟩
abbrev main_v76 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_v80 : Ref sig .tc := ⟨.hbm, 182, rfl⟩
abbrev main_v81 : Ref sig .tc := ⟨.hbm, 183, rfl⟩
abbrev main_v82 : Ref sig .tc := ⟨.hbm, 184, rfl⟩
abbrev main_v83 : Ref sig .tc := ⟨.hbm, 185, rfl⟩
abbrev main_c_24 : Ref sig .tc := ⟨.hbm, 186, rfl⟩
abbrev main_v84 : Ref sig .tc := ⟨.hbm, 187, rfl⟩
abbrev main_v85 : Ref sig .tc := ⟨.hbm, 188, rfl⟩
abbrev main_c_25 : Ref sig .tc := ⟨.hbm, 189, rfl⟩
abbrev main_v86 : Ref sig .tc := ⟨.hbm, 190, rfl⟩
abbrev main_v87 : Ref sig .tc := ⟨.hbm, 191, rfl⟩
abbrev main_v88 : Ref sig .tc := ⟨.hbm, 192, rfl⟩
abbrev main_c_26 : Ref sig .tc := ⟨.hbm, 193, rfl⟩
abbrev main_v89 : Ref sig .tc := ⟨.hbm, 194, rfl⟩
abbrev main_v90 : Ref sig .tc := ⟨.hbm, 195, rfl⟩
abbrev main_c_27 : Ref sig .tc := ⟨.hbm, 196, rfl⟩
abbrev main_v91 : Ref sig .tc := ⟨.hbm, 197, rfl⟩
abbrev main_v92 : Ref sig .tc := ⟨.hbm, 198, rfl⟩
abbrev main_v93 : Ref sig .tc := ⟨.hbm, 199, rfl⟩
abbrev main_c_28 : Ref sig .tc := ⟨.hbm, 200, rfl⟩
abbrev main_v94 : Ref sig .tc := ⟨.hbm, 201, rfl⟩
abbrev main_v95 : Ref sig .tc := ⟨.hbm, 202, rfl⟩
abbrev main_c_29 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_c_30 : Ref sig .tc := ⟨.hbm, 208, rfl⟩
abbrev main_v100 : Ref sig .tc := ⟨.hbm, 209, rfl⟩
abbrev main_v101 : Ref sig .tc := ⟨.hbm, 210, rfl⟩
abbrev main_v102 : Ref sig .tc := ⟨.hbm, 211, rfl⟩
abbrev main_v103 : Ref sig .tc := ⟨.hbm, 212, rfl⟩
abbrev main_v104 : Ref sig .tc := ⟨.hbm, 213, rfl⟩
abbrev main_v105 : Ref sig .tc := ⟨.hbm, 214, rfl⟩
abbrev main_v106 : Ref sig .tc := ⟨.hbm, 215, rfl⟩
abbrev main_v107 : Ref sig .tc := ⟨.hbm, 216, rfl⟩
abbrev main_v108 : Ref sig .tc := ⟨.hbm, 217, rfl⟩
abbrev main_v109 : Ref sig .tc := ⟨.hbm, 218, rfl⟩
abbrev main_v110 : Ref sig .tc := ⟨.hbm, 219, rfl⟩
abbrev main_v111 : Ref sig .tc := ⟨.hbm, 220, rfl⟩
abbrev main_cst : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_cst_31 : Ref sig .tc := ⟨.hbm, 225, rfl⟩
abbrev main_v115 : Ref sig .tc := ⟨.hbm, 226, rfl⟩
abbrev main_v116 : Ref sig .tc := ⟨.hbm, 227, rfl⟩
abbrev main_v117 : Ref sig .tc := ⟨.hbm, 228, rfl⟩
abbrev main_cst_32 : Ref sig .tc := ⟨.hbm, 229, rfl⟩
abbrev main_v118 : Ref sig .tc := ⟨.hbm, 230, rfl⟩
abbrev main_v119 : Ref sig .tc := ⟨.hbm, 231, rfl⟩
abbrev main_v120 : Ref sig .tc := ⟨.hbm, 232, rfl⟩
abbrev main_cst_33 : Ref sig .tc := ⟨.hbm, 233, rfl⟩
abbrev main_v121 : Ref sig .tc := ⟨.hbm, 234, rfl⟩
abbrev main_v122 : Ref sig .tc := ⟨.hbm, 235, rfl⟩
abbrev main_v123 : Ref sig .tc := ⟨.hbm, 236, rfl⟩
abbrev main_v124 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_v128 : Ref sig .tc := ⟨.hbm, 241, rfl⟩
abbrev main_v129 : Ref sig .tc := ⟨.hbm, 242, rfl⟩
abbrev main_cst_34 : Ref sig .tc := ⟨.hbm, 243, rfl⟩
abbrev main_v130 : Ref sig .tc := ⟨.hbm, 244, rfl⟩
abbrev main_v131 : Ref sig .tc := ⟨.hbm, 245, rfl⟩
abbrev main_cst_35 : Ref sig .tc := ⟨.hbm, 246, rfl⟩
abbrev main_call4_v0 : Ref sig .tc := ⟨.hbm, 247, rfl⟩
abbrev main_call4_v1 : Ref sig .tc := ⟨.hbm, 248, rfl⟩
abbrev main_v132 : Ref sig .tc := ⟨.hbm, 249, rfl⟩
abbrev main_cst_36 : Ref sig .tc := ⟨.hbm, 250, rfl⟩
abbrev main_call5_v0 : Ref sig .tc := ⟨.hbm, 251, rfl⟩
abbrev main_call5_v1 : Ref sig .tc := ⟨.hbm, 252, rfl⟩
abbrev main_v133 : Ref sig .tc := ⟨.hbm, 253, rfl⟩
abbrev main_cst_37 : Ref sig .tc := ⟨.hbm, 254, rfl⟩
abbrev main_call6_v0 : Ref sig .tc := ⟨.hbm, 255, rfl⟩
abbrev main_call6_v1 : Ref sig .tc := ⟨.hbm, 256, rfl⟩
abbrev main_call6_v2 : Ref sig .tc := ⟨.hbm, 257, rfl⟩
abbrev main_v134 : Ref sig .tc := ⟨.hbm, 258, rfl⟩
abbrev main_cst_38 : Ref sig .tc := ⟨.hbm, 259, rfl⟩
abbrev main_v135 : Ref sig .tc := ⟨.hbm, 260, rfl⟩
abbrev main_v136 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S80x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S80x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16x80x128x128 : Shape := ⟨4, ![16, 80, 128, 128]⟩
abbrev S16x2x128x128 : Shape := ⟨4, ![16, 2, 128, 128]⟩
abbrev S_ : Shape := ⟨0, ![]⟩
abbrev S16x1310720 : Shape := ⟨2, ![16, 1310720]⟩
abbrev S16x100 : Shape := ⟨2, ![16, 100]⟩
abbrev S16x100x1 : Shape := ⟨3, ![16, 100, 1]⟩
abbrev S16x128x128x2 : Shape := ⟨4, ![16, 128, 128, 2]⟩
abbrev S16x16384x2 : Shape := ⟨3, ![16, 16384, 2]⟩
abbrev S16 : Shape := ⟨1, ![16]⟩
abbrev S16x1 : Shape := ⟨2, ![16, 1]⟩
abbrev S16x1x100 : Shape := ⟨3, ![16, 1, 100]⟩
abbrev S48x100 : Shape := ⟨2, ![48, 100]⟩
abbrev S3x1600 : Shape := ⟨2, ![3, 1600]⟩
abbrev S1x1600 : Shape := ⟨2, ![1, 1600]⟩
abbrev S1600 : Shape := ⟨1, ![1600]⟩
abbrev S1600x1 : Shape := ⟨2, ![1600, 1]⟩
abbrev S1600x3 : Shape := ⟨2, ![1600, 3]⟩
abbrev S16x100x4 : Shape := ⟨3, ![16, 100, 4]⟩

abbrev nBuf : Space → Nat
  | .hbm => 303
  | .vmem => 0
  | .smem => 0
  | _ => 0

abbrev hbmTy0_0 (i : Nat) : BufTy := match i % 128 with
  | 0 => ⟨S16x80x128x128, .f32⟩
  | 1 => ⟨S16x2x128x128, .f32⟩
  | 2 => ⟨S16x2x128x128, .f32⟩
  | 3 => ⟨S_, .f32⟩
  | 4 => ⟨S_, .f32⟩
  | 5 => ⟨S16x80x128x128, .f32⟩
  | 6 => ⟨S16x80x128x128, .i1⟩
  | 7 => ⟨S_, .f32⟩
  | 8 => ⟨S_, .f32⟩
  | 9 => ⟨S16x80x128x128, .f32⟩
  | 10 => ⟨S16x80x128x128, .f32⟩
  | 11 => ⟨S16x1310720, .f32⟩
  | 12 => ⟨S16x100, .f32⟩
  | 13 => ⟨S16x100, .i32⟩
  | 14 => ⟨S16x100x1, .f32⟩
  | 15 => ⟨S_, .i32⟩
  | 16 => ⟨S_, .i32⟩
  | 17 => ⟨S16x100, .i32⟩
  | 18 => ⟨S16x100, .i32⟩
  | 19 => ⟨S16x100, .i32⟩
  | 20 => ⟨S_, .i32⟩
  | 21 => ⟨S16x100, .i32⟩
  | 22 => ⟨S16x100, .i1⟩
  | 23 => ⟨S16x100, .i32⟩
  | 24 => ⟨S16x100, .i32⟩
  | 25 => ⟨S_, .i32⟩
  | 26 => ⟨S16x100, .i32⟩
  | 27 => ⟨S16x100, .i1⟩
  | 28 => ⟨S16x100, .i1⟩
  | 29 => ⟨S_, .i32⟩
  | 30 => ⟨S16x100, .i32⟩
  | 31 => ⟨S16x100, .i32⟩
  | 32 => ⟨S16x100, .i32⟩
  | 33 => ⟨S16x100, .f32⟩
  | 34 => ⟨S16x100x1, .f32⟩
  | 35 => ⟨S16x128x128x2, .f32⟩
  | 36 => ⟨S16x16384x2, .f32⟩
  | 37 => ⟨S16x128x128x2, .f32⟩
  | 38 => ⟨S16x16384x2, .f32⟩
  | 39 => ⟨S_, .i32⟩
  | 40 => ⟨S_, .i32⟩
  | 41 => ⟨S_, .i32⟩
  | 42 => ⟨S_, .i1⟩
  | 43 => ⟨S_, .i32⟩
  | 44 => ⟨S_, .i32⟩
  | 45 => ⟨S16x100, .i32⟩
  | 46 => ⟨S16x100, .i32⟩
  | 47 => ⟨S_, .i32⟩
  | 48 => ⟨S16x100, .i32⟩
  | 49 => ⟨S16x100, .i1⟩
  | 50 => ⟨S_, .i32⟩
  | 51 => ⟨S16x100, .i32⟩
  | 52 => ⟨S16x100, .i1⟩
  | 53 => ⟨S_, .i32⟩
  | 54 => ⟨S_, .i1⟩
  | 55 => ⟨S16x100, .i1⟩
  | 56 => ⟨S16x100, .i1⟩
  | 57 => ⟨S16x100, .i1⟩
  | 58 => ⟨S16x100, .i32⟩
  | 59 => ⟨S16x100, .i32⟩
  | 60 => ⟨S16x100, .i32⟩
  | 61 => ⟨S_, .i32⟩
  | 62 => ⟨S_, .i32⟩
  | 63 => ⟨S16x100, .i32⟩
  | 64 => ⟨S16x100, .i32⟩
  | 65 => ⟨S16x100, .i32⟩
  | 66 => ⟨S_, .i32⟩
  | 67 => ⟨S16x100, .i32⟩
  | 68 => ⟨S16x100, .i1⟩
  | 69 => ⟨S16x100, .i32⟩
  | 70 => ⟨S16x100, .i32⟩
  | 71 => ⟨S_, .i32⟩
  | 72 => ⟨S16x100, .i32⟩
  | 73 => ⟨S16x100, .i1⟩
  | 74 => ⟨S16x100, .i1⟩
  | 75 => ⟨S_, .i32⟩
  | 76 => ⟨S16x100, .i32⟩
  | 77 => ⟨S16x100, .i32⟩
  | 78 => ⟨S16x100, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S16x100, .i32⟩
  | 86 => ⟨S16x100, .i32⟩
  | 87 => ⟨S_, .i32⟩
  | 88 => ⟨S16x100, .i32⟩
  | 89 => ⟨S16x100, .i1⟩
  | 90 => ⟨S_, .i32⟩
  | 91 => ⟨S16x100, .i32⟩
  | 92 => ⟨S16x100, .i1⟩
  | 93 => ⟨S_, .i32⟩
  | 94 => ⟨S_, .i1⟩
  | 95 => ⟨S16x100, .i1⟩
  | 96 => ⟨S16x100, .i1⟩
  | 97 => ⟨S16x100, .i1⟩
  | 98 => ⟨S16x100, .i32⟩
  | 99 => ⟨S16x100, .i32⟩
  | 100 => ⟨S16x100, .i32⟩
  | 101 => ⟨S16, .i32⟩
  | 102 => ⟨S16x1, .i32⟩
  | 103 => ⟨S16x1x100, .i32⟩
  | 104 => ⟨S16x100, .i32⟩
  | 105 => ⟨S_, .i32⟩
  | 106 => ⟨S16x100, .i32⟩
  | 107 => ⟨S_, .i32⟩
  | 108 => ⟨S16x100, .i32⟩
  | 109 => ⟨S48x100, .i32⟩
  | 110 => ⟨S3x1600, .i32⟩
  | 111 => ⟨S48x100, .i32⟩
  | 112 => ⟨S3x1600, .i32⟩
  | 113 => ⟨S1x1600, .i32⟩
  | 114 => ⟨S1600, .i32⟩
  | 115 => ⟨S1x1600, .i32⟩
  | 116 => ⟨S1600, .i32⟩
  | 117 => ⟨S1x1600, .i32⟩
  | 118 => ⟨S1600, .i32⟩
  | 119 => ⟨S_, .i32⟩
  | 120 => ⟨S1600, .i32⟩
  | 121 => ⟨S1600, .i1⟩
  | 122 => ⟨S_, .i32⟩
  | 123 => ⟨S1600, .i32⟩
  | 124 => ⟨S1600, .i32⟩
  | 125 => ⟨S1600, .i32⟩
  | 126 => ⟨S_, .i32⟩
  | 127 => ⟨S1600, .i32⟩
  | _ => ⟨S16x80x128x128, .f32⟩

abbrev hbmTy0_1 (i : Nat) : BufTy := match i % 128 with
  | 0 => ⟨S1600, .i1⟩
  | 1 => ⟨S_, .i32⟩
  | 2 => ⟨S1600, .i32⟩
  | 3 => ⟨S1600, .i32⟩
  | 4 => ⟨S1600, .i32⟩
  | 5 => ⟨S_, .i32⟩
  | 6 => ⟨S1600, .i32⟩
  | 7 => ⟨S1600, .i1⟩
  | 8 => ⟨S_, .i32⟩
  | 9 => ⟨S1600, .i32⟩
  | 10 => ⟨S1600, .i32⟩
  | 11 => ⟨S1600, .i32⟩
  | 12 => ⟨S1600x1, .i32⟩
  | 13 => ⟨S1600x1, .i32⟩
  | 14 => ⟨S1600x1, .i32⟩
  | 15 => ⟨S1600x3, .i32⟩
  | 16 => ⟨S1600, .f32⟩
  | 17 => ⟨S16x100, .f32⟩
  | 18 => ⟨S1x1600, .i32⟩
  | 19 => ⟨S1600, .i32⟩
  | 20 => ⟨S1x1600, .i32⟩
  | 21 => ⟨S1600, .i32⟩
  | 22 => ⟨S1x1600, .i32⟩
  | 23 => ⟨S1600, .i32⟩
  | 24 => ⟨S_, .i32⟩
  | 25 => ⟨S1600, .i32⟩
  | 26 => ⟨S1600, .i1⟩
  | 27 => ⟨S_, .i32⟩
  | 28 => ⟨S1600, .i32⟩
  | 29 => ⟨S1600, .i32⟩
  | 30 => ⟨S1600, .i32⟩
  | 31 => ⟨S_, .i32⟩
  | 32 => ⟨S1600, .i32⟩
  | 33 => ⟨S1600, .i1⟩
  | 34 => ⟨S_, .i32⟩
  | 35 => ⟨S1600, .i32⟩
  | 36 => ⟨S1600, .i32⟩
  | 37 => ⟨S1600, .i32⟩
  | 38 => ⟨S_, .i32⟩
  | 39 => ⟨S1600, .i32⟩
  | 40 => ⟨S1600, .i1⟩
  | 41 => ⟨S_, .i32⟩
  | 42 => ⟨S1600, .i32⟩
  | 43 => ⟨S1600, .i32⟩
  | 44 => ⟨S1600, .i32⟩
  | 45 => ⟨S1600x1, .i32⟩
  | 46 => ⟨S1600x1, .i32⟩
  | 47 => ⟨S1600x1, .i32⟩
  | 48 => ⟨S1600x3, .i32⟩
  | 49 => ⟨S1600, .f32⟩
  | 50 => ⟨S16x100, .f32⟩
  | 51 => ⟨S16x100, .f32⟩
  | 52 => ⟨S16x100, .f32⟩
  | 53 => ⟨S16x100, .f32⟩
  | 54 => ⟨S16x100, .f32⟩
  | 55 => ⟨S1x1600, .i32⟩
  | 56 => ⟨S1600, .i32⟩
  | 57 => ⟨S1x1600, .i32⟩
  | 58 => ⟨S1600, .i32⟩
  | 59 => ⟨S1x1600, .i32⟩
  | 60 => ⟨S1600, .i32⟩
  | 61 => ⟨S_, .i32⟩
  | 62 => ⟨S1600, .i32⟩
  | 63 => ⟨S1600, .i1⟩
  | 64 => ⟨S_, .i32⟩
  | 65 => ⟨S1600, .i32⟩
  | 66 => ⟨S1600, .i32⟩
  | 67 => ⟨S1600, .i32⟩
  | 68 => ⟨S_, .i32⟩
  | 69 => ⟨S1600, .i32⟩
  | 70 => ⟨S1600, .i1⟩
  | 71 => ⟨S_, .i32⟩
  | 72 => ⟨S1600, .i32⟩
  | 73 => ⟨S1600, .i32⟩
  | 74 => ⟨S1600, .i32⟩
  | 75 => ⟨S_, .i32⟩
  | 76 => ⟨S1600, .i32⟩
  | 77 => ⟨S1600, .i1⟩
  | 78 => ⟨S_, .i32⟩
  | 79 => ⟨S1600, .i32⟩
  | 80 => ⟨S1600, .i32⟩
  | 81 => ⟨S1600, .i32⟩
  | 82 => ⟨S1600x1, .i32⟩
  | 83 => ⟨S1600x1, .i32⟩
  | 84 => ⟨S1600x1, .i32⟩
  | 85 => ⟨S1600x3, .i32⟩
  | 86 => ⟨S1600, .f32⟩
  | 87 => ⟨S16x100, .f32⟩
  | 88 => ⟨S1x1600, .i32⟩
  | 89 => ⟨S1600, .i32⟩
  | 90 => ⟨S1x1600, .i32⟩
  | 91 => ⟨S1600, .i32⟩
  | 92 => ⟨S1x1600, .i32⟩
  | 93 => ⟨S1600, .i32⟩
  | 94 => ⟨S_, .i32⟩
  | 95 => ⟨S1600, .i32⟩
  | 96 => ⟨S1600, .i1⟩
  | 97 => ⟨S_, .i32⟩
  | 98 => ⟨S1600, .i32⟩
  | 99 => ⟨S1600, .i32⟩
  | 100 => ⟨S1600, .i32⟩
  | 101 => ⟨S_, .i32⟩
  | 102 => ⟨S1600, .i32⟩
  | 103 => ⟨S1600, .i1⟩
  | 104 => ⟨S_, .i32⟩
  | 105 => ⟨S1600, .i32⟩
  | 106 => ⟨S1600, .i32⟩
  | 107 => ⟨S1600, .i32⟩
  | 108 => ⟨S_, .i32⟩
  | 109 => ⟨S1600, .i32⟩
  | 110 => ⟨S1600, .i1⟩
  | 111 => ⟨S_, .i32⟩
  | 112 => ⟨S1600, .i32⟩
  | 113 => ⟨S1600, .i32⟩
  | 114 => ⟨S1600, .i32⟩
  | 115 => ⟨S1600x1, .i32⟩
  | 116 => ⟨S1600x1, .i32⟩
  | 117 => ⟨S1600x1, .i32⟩
  | 118 => ⟨S1600x3, .i32⟩
  | 119 => ⟨S1600, .f32⟩
  | 120 => ⟨S16x100, .f32⟩
  | 121 => ⟨S_, .f32⟩
  | 122 => ⟨S16x100, .f32⟩
  | 123 => ⟨S16x100, .f32⟩
  | 124 => ⟨S_, .f32⟩
  | 125 => ⟨S16x100, .f32⟩
  | 126 => ⟨S16x100, .f32⟩
  | 127 => ⟨S16x100, .f32⟩
  | _ => ⟨S16x80x128x128, .f32⟩

abbrev hbmTy0_2 (i : Nat) : BufTy := match i % 128 with
  | 0 => ⟨S16x100, .f32⟩
  | 1 => ⟨S16x100, .f32⟩
  | 2 => ⟨S16x100, .f32⟩
  | 3 => ⟨S16x100x1, .f32⟩
  | 4 => ⟨S16x100x1, .f32⟩
  | 5 => ⟨S16x100x1, .f32⟩
  | 6 => ⟨S16x100x1, .f32⟩
  | 7 => ⟨S16x100x4, .f32⟩
  | 8 => ⟨S_, .f32⟩
  | 9 => ⟨S16x100x1, .f32⟩
  | 10 => ⟨S16x100x1, .i1⟩
  | 11 => ⟨S_, .f32⟩
  | 12 => ⟨S16x100x1, .f32⟩
  | 13 => ⟨S16x100x1, .f32⟩
  | 14 => ⟨S16x100x1, .f32⟩
  | 15 => ⟨S_, .f32⟩
  | 16 => ⟨S16x100x1, .f32⟩
  | 17 => ⟨S16x100x1, .f32⟩
  | 18 => ⟨S16x100x1, .f32⟩
  | 19 => ⟨S16x100x1, .f32⟩
  | 20 => ⟨S16x100x1, .f32⟩
  | 21 => ⟨S_, .f32⟩
  | 22 => ⟨S16x100x1, .f32⟩
  | 23 => ⟨S16x100x1, .f32⟩
  | 24 => ⟨S16x100x1, .f32⟩
  | 25 => ⟨S16x100x1, .f32⟩
  | 26 => ⟨S16x100x1, .f32⟩
  | 27 => ⟨S_, .f32⟩
  | 28 => ⟨S16x100x1, .f32⟩
  | 29 => ⟨S16x100x1, .f32⟩
  | 30 => ⟨S16x100x1, .f32⟩
  | 31 => ⟨S16x100x1, .f32⟩
  | 32 => ⟨S16x100x1, .f32⟩
  | 33 => ⟨S_, .f32⟩
  | 34 => ⟨S16x100x1, .f32⟩
  | 35 => ⟨S16x100x1, .f32⟩
  | 36 => ⟨S16x100x1, .f32⟩
  | 37 => ⟨S16x100x1, .f32⟩
  | 38 => ⟨S16x100x1, .f32⟩
  | 39 => ⟨S_, .f32⟩
  | 40 => ⟨S16x100x1, .f32⟩
  | 41 => ⟨S16x100x1, .f32⟩
  | 42 => ⟨S16x100x1, .f32⟩
  | 43 => ⟨S16x100x4, .f32⟩
  | 44 => ⟨S_, .f32⟩
  | 45 => ⟨S16x100x4, .f32⟩
  | 46 => ⟨S16x100x4, .f32⟩
  | _ => ⟨S16x80x128x128, .f32⟩

abbrev hbmTy (i : Nat) : BufTy := match i / 128 with
  | 0 => hbmTy0_0 i
  | 1 => hbmTy0_1 i
  | 2 => hbmTy0_2 i
  | _ => ⟨S16x80x128x128, .f32⟩

abbrev bufTy : (tb : Table) → Fin (tcTables nBuf tb) → BufTy
  | .hbm, ⟨i, _⟩ => hbmTy i
  | _, _ => ⟨S16x80x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_call0_v0 : Ref sig .tc := ⟨.hbm, 8, rfl⟩
abbrev main_call0_v1 : Ref sig .tc := ⟨.hbm, 9, rfl⟩
abbrev main_v3 : Ref sig .tc := ⟨.hbm, 10, rfl⟩
abbrev main_v4 : Ref sig .tc := ⟨.hbm, 11, rfl⟩
abbrev main_values : Ref sig .tc := ⟨.hbm, 12, rfl⟩
abbrev main_indices : Ref sig .tc := ⟨.hbm, 13, rfl⟩
abbrev main_v5 : Ref sig .tc := ⟨.hbm, 14, rfl⟩
abbrev main_c : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_c : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_0 : Ref sig .tc := ⟨.hbm, 29, rfl⟩
abbrev main_call1_v12 : Ref sig .tc := ⟨.hbm, 30, rfl⟩
abbrev main_call1_v13 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_1 : Ref sig .tc := ⟨.hbm, 39, rfl⟩
abbrev main_call2_v0 : Ref sig .tc := ⟨.hbm, 40, rfl⟩
abbrev main_call2_c : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_c_1 : Ref sig .tc := ⟨.hbm, 47, rfl⟩
abbrev main_call2_v5 : Ref sig .tc := ⟨.hbm, 48, rfl⟩
abbrev main_call2_v6 : Ref sig .tc := ⟨.hbm, 49, rfl⟩
abbrev main_call2_c_2 : Ref sig .tc := ⟨.hbm, 50, rfl⟩
abbrev main_call2_v7 : Ref sig .tc := ⟨.hbm, 51, rfl⟩
abbrev main_call2_v8 : Ref sig .tc := ⟨.hbm, 52, rfl⟩
abbrev main_call2_c_3 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_v13 : Ref sig .tc := ⟨.hbm, 60, rfl⟩
abbrev main_c_2 : Ref sig .tc := ⟨.hbm, 61, rfl⟩
abbrev main_call3_v0 : Ref sig .tc := ⟨.hbm, 62, rfl⟩
abbrev main_call3_v1 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_c : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_0 : Ref sig .tc := ⟨.hbm, 75, rfl⟩
abbrev main_call3_v12 : Ref sig .tc := ⟨.hbm, 76, rfl⟩
abbrev main_call3_v13 : Ref sig .tc := ⟨.hbm, 77, rfl⟩
abbrev main_v14 : Ref sig .tc := ⟨.hbm, 78, rfl⟩
abbrev main_c_3 : Ref sig .tc := ⟨.hbm, 79, rfl⟩
abbrev main_call4_v0 : Ref sig .tc := ⟨.hbm, 80, rfl⟩
abbrev main_call4_c : Ref sig .tc := ⟨.hbm, 81, rfl⟩
abbrev main_call4_v1 : Ref sig .tc := ⟨.hbm, 82, rfl⟩
abbrev main_call4_c_0 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_c_1 : Ref sig .tc := ⟨.hbm, 87, rfl⟩
abbrev main_call4_v5 : Ref sig .tc := ⟨.hbm, 88, rfl⟩
abbrev main_call4_v6 : Ref sig .tc := ⟨.hbm, 89, rfl⟩
abbrev main_call4_c_2 : Ref sig .tc := ⟨.hbm, 90, rfl⟩
abbrev main_call4_v7 : Ref sig .tc := ⟨.hbm, 91, rfl⟩
abbrev main_call4_v8 : Ref sig .tc := ⟨.hbm, 92, rfl⟩
abbrev main_call4_c_3 : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_v12 : Ref sig .tc := ⟨.hbm, 97, rfl⟩
abbrev main_call4_v13 : Ref sig .tc := ⟨.hbm, 98, rfl⟩
abbrev main_call4_v14 : Ref sig .tc := ⟨.hbm, 99, rfl⟩
abbrev main_v15 : Ref sig .tc := ⟨.hbm, 100, rfl⟩
abbrev main_v16 : Ref sig .tc := ⟨.hbm, 101, rfl⟩
abbrev main_v17 : Ref sig .tc := ⟨.hbm, 102, rfl⟩
abbrev main_v18 : Ref sig .tc := ⟨.hbm, 103, rfl⟩
abbrev main_v19 : Ref sig .tc := ⟨.hbm, 104, rfl⟩
abbrev main_c_4 : Ref sig .tc := ⟨.hbm, 105, rfl⟩
abbrev main_v20 : Ref sig .tc := ⟨.hbm, 106, rfl⟩
abbrev main_c_5 : Ref sig .tc := ⟨.hbm, 107, rfl⟩
abbrev main_v21 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_v30 : Ref sig .tc := ⟨.hbm, 117, rfl⟩
abbrev main_v31 : Ref sig .tc := ⟨.hbm, 118, rfl⟩
abbrev main_c_6 : Ref sig .tc := ⟨.hbm, 119, rfl⟩
abbrev main_v32 : Ref sig .tc := ⟨.hbm, 120, rfl⟩
abbrev main_v33 : Ref sig .tc := ⟨.hbm, 121, rfl⟩
abbrev main_c_7 : Ref sig .tc := ⟨.hbm, 122, rfl⟩
abbrev main_v34 : Ref sig .tc := ⟨.hbm, 123, rfl⟩
abbrev main_v35 : Ref sig .tc := ⟨.hbm, 124, rfl⟩
abbrev main_v36 : Ref sig .tc := ⟨.hbm, 125, rfl⟩
abbrev main_c_8 : Ref sig .tc := ⟨.hbm, 126, rfl⟩
abbrev main_v37 : Ref sig .tc := ⟨.hbm, 127, rfl⟩
abbrev main_v38 : Ref sig .tc := ⟨.hbm, 128, rfl⟩
abbrev main_c_9 : Ref sig .tc := ⟨.hbm, 129, rfl⟩
abbrev main_v39 : Ref sig .tc := ⟨.hbm, 130, rfl⟩
abbrev main_v40 : Ref sig .tc := ⟨.hbm, 131, rfl⟩
abbrev main_v41 : Ref sig .tc := ⟨.hbm, 132, rfl⟩
abbrev main_c_10 : Ref sig .tc := ⟨.hbm, 133, rfl⟩
abbrev main_v42 : Ref sig .tc := ⟨.hbm, 134, rfl⟩
abbrev main_v43 : Ref sig .tc := ⟨.hbm, 135, rfl⟩
abbrev main_c_11 : Ref sig .tc := ⟨.hbm, 136, rfl⟩
abbrev main_v44 : Ref sig .tc := ⟨.hbm, 137, rfl⟩
abbrev main_v45 : Ref sig .tc := ⟨.hbm, 138, rfl⟩
abbrev main_v46 : Ref sig .tc := ⟨.hbm, 139, rfl⟩
abbrev main_v47 : Ref sig .tc := ⟨.hbm, 140, rfl⟩
abbrev main_v48 : Ref sig .tc := ⟨.hbm, 141, rfl⟩
abbrev main_v49 : Ref sig .tc := ⟨.hbm, 142, rfl⟩
abbrev main_v50 : Ref sig .tc := ⟨.hbm, 143, rfl⟩
abbrev main_v51 : Ref sig .tc := ⟨.hbm, 144, rfl⟩
abbrev main_v52 : Ref sig .tc := ⟨.hbm, 145, rfl⟩
abbrev main_v53 : Ref sig .tc := ⟨.hbm, 146, rfl⟩
abbrev main_v54 : Ref sig .tc := ⟨.hbm, 147, rfl⟩
abbrev main_v55 : Ref sig .tc := ⟨.hbm, 148, rfl⟩
abbrev main_v56 : Ref sig .tc := ⟨.hbm, 149, rfl⟩
abbrev main_v57 : Ref sig .tc := ⟨.hbm, 150, rfl⟩
abbrev main_v58 : Ref sig .tc := ⟨.hbm, 151, rfl⟩
abbrev main_c_12 : Ref sig .tc := ⟨.hbm, 152, rfl⟩
abbrev main_v59 : Ref sig .tc := ⟨.hbm, 153, rfl⟩
abbrev main_v60 : Ref sig .tc := ⟨.hbm, 154, rfl⟩
abbrev main_c_13 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_c_14 : Ref sig .tc := ⟨.hbm, 159, rfl⟩
abbrev main_v64 : Ref sig .tc := ⟨.hbm, 160, rfl⟩
abbrev main_v65 : Ref sig .tc := ⟨.hbm, 161, rfl⟩
abbrev main_c_15 : Ref sig .tc := ⟨.hbm, 162, rfl⟩
abbrev main_v66 : Ref sig .tc := ⟨.hbm, 163, rfl⟩
abbrev main_v67 : Ref sig .tc := ⟨.hbm, 164, rfl⟩
abbrev main_v68 : Ref sig .tc := ⟨.hbm, 165, rfl⟩
abbrev main_c_16 : Ref sig .tc := ⟨.hbm, 166, rfl⟩
abbrev main_v69 : Ref sig .tc := ⟨.hbm, 167, rfl⟩
abbrev main_v70 : Ref sig .tc := ⟨.hbm, 168, rfl⟩
abbrev main_c_17 : Ref sig .tc := ⟨.hbm, 169, rfl⟩
abbrev main_v71 : Ref sig .tc := ⟨.hbm, 170, rfl⟩
abbrev main_v72 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_v76 : Ref sig .tc := ⟨.hbm, 175, rfl⟩
abbrev main_v77 : Ref sig .tc := ⟨.hbm, 176, rfl⟩
abbrev main_v78 : Ref sig .tc := ⟨.hbm, 177, rfl⟩
abbrev main_v79 : Ref sig .tc := ⟨.hbm, 178, rfl⟩
abbrev main_v80 : Ref sig .tc := ⟨.hbm, 179, rfl⟩
abbrev main_v81 : Ref sig .tc := ⟨.hbm, 180, rfl⟩
abbrev main_v82 : Ref sig .tc := ⟨.hbm, 181, rfl⟩
abbrev main_v83 : Ref sig .tc := ⟨.hbm, 182, rfl⟩
abbrev main_v84 : Ref sig .tc := ⟨.hbm, 183, rfl⟩
abbrev main_v85 : Ref sig .tc := ⟨.hbm, 184, rfl⟩
abbrev main_v86 : Ref sig .tc := ⟨.hbm, 185, rfl⟩
abbrev main_v87 : Ref sig .tc := ⟨.hbm, 186, rfl⟩
abbrev main_v88 : Ref sig .tc := ⟨.hbm, 187, rfl⟩
abbrev main_v89 : Ref sig .tc := ⟨.hbm, 188, rfl⟩
abbrev main_c_18 : Ref sig .tc := ⟨.hbm, 189, rfl⟩
abbrev main_v90 : Ref sig .tc := ⟨.hbm, 190, rfl⟩
abbrev main_v91 : Ref sig .tc := ⟨.hbm, 191, rfl⟩
abbrev main_c_19 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_c_20 : Ref sig .tc := ⟨.hbm, 196, rfl⟩
abbrev main_v95 : Ref sig .tc := ⟨.hbm, 197, rfl⟩
abbrev main_v96 : Ref sig .tc := ⟨.hbm, 198, rfl⟩
abbrev main_c_21 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_c_22 : Ref sig .tc := ⟨.hbm, 203, rfl⟩
abbrev main_v100 : Ref sig .tc := ⟨.hbm, 204, rfl⟩
abbrev main_v101 : Ref sig .tc := ⟨.hbm, 205, rfl⟩
abbrev main_c_23 : Ref sig .tc := ⟨.hbm, 206, rfl⟩
abbrev main_v102 : Ref sig .tc := ⟨.hbm, 207, rfl⟩
abbrev main_v103 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_v109 : Ref sig .tc := ⟨.hbm, 214, rfl⟩
abbrev main_v110 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_v114 : Ref sig .tc := ⟨.hbm, 219, rfl⟩
abbrev main_v115 : Ref sig .tc := ⟨.hbm, 220, rfl⟩
abbrev main_v116 : Ref sig .tc := ⟨.hbm, 221, rfl⟩
abbrev main_c_24 : Ref sig .tc := ⟨.hbm, 222, rfl⟩
abbrev main_v117 : Ref sig .tc := ⟨.hbm, 223, rfl⟩
abbrev main_v118 : Ref sig .tc := ⟨.hbm, 224, rfl⟩
abbrev main_c_25 : Ref sig .tc := ⟨.hbm, 225, rfl⟩
abbrev main_v119 : Ref sig .tc := ⟨.hbm, 226, rfl⟩
abbrev main_v120 : Ref sig .tc := ⟨.hbm, 227, rfl⟩
abbrev main_v121 : Ref sig .tc := ⟨.hbm, 228, rfl⟩
abbrev main_c_26 : Ref sig .tc := ⟨.hbm, 229, rfl⟩
abbrev main_v122 : Ref sig .tc := ⟨.hbm, 230, rfl⟩
abbrev main_v123 : Ref sig .tc := ⟨.hbm, 231, rfl⟩
abbrev main_c_27 : Ref sig .tc := ⟨.hbm, 232, rfl⟩
abbrev main_v124 : Ref sig .tc := ⟨.hbm, 233, rfl⟩
abbrev main_v125 : Ref sig .tc := ⟨.hbm, 234, rfl⟩
abbrev main_v126 : Ref sig .tc := ⟨.hbm, 235, rfl⟩
abbrev main_c_28 : Ref sig .tc := ⟨.hbm, 236, rfl⟩
abbrev main_v127 : Ref sig .tc := ⟨.hbm, 237, rfl⟩
abbrev main_v128 : Ref sig .tc := ⟨.hbm, 238, rfl⟩
abbrev main_c_29 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_v136 : Ref sig .tc := ⟨.hbm, 247, rfl⟩
abbrev main_v137 : Ref sig .tc := ⟨.hbm, 248, rfl⟩
abbrev main_cst_30 : Ref sig .tc := ⟨.hbm, 249, rfl⟩
abbrev main_v138 : Ref sig .tc := ⟨.hbm, 250, rfl⟩
abbrev main_v139 : Ref sig .tc := ⟨.hbm, 251, rfl⟩
abbrev main_cst_31 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_v146 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_cst_32 : Ref sig .tc := ⟨.hbm, 264, rfl⟩
abbrev main_v151 : Ref sig .tc := ⟨.hbm, 265, rfl⟩
abbrev main_v152 : Ref sig .tc := ⟨.hbm, 266, rfl⟩
abbrev main_cst_33 : Ref sig .tc := ⟨.hbm, 267, rfl⟩
abbrev main_v153 : Ref sig .tc := ⟨.hbm, 268, rfl⟩
abbrev main_v154 : Ref sig .tc := ⟨.hbm, 269, rfl⟩
abbrev main_v155 : Ref sig .tc := ⟨.hbm, 270, rfl⟩
abbrev main_cst_34 : Ref sig .tc := ⟨.hbm, 271, rfl⟩
abbrev main_v156 : Ref sig .tc := ⟨.hbm, 272, rfl⟩
abbrev main_v157 : Ref sig .tc := ⟨.hbm, 273, rfl⟩
abbrev main_v158 : Ref sig .tc := ⟨.hbm, 274, rfl⟩
abbrev main_v159 : Ref sig .tc := ⟨.hbm, 275, rfl⟩
abbrev main_v160 : Ref sig .tc := ⟨.hbm, 276, rfl⟩
abbrev main_cst_35 : Ref sig .tc := ⟨.hbm, 277, rfl⟩
abbrev main_v161 : Ref sig .tc := ⟨.hbm, 278, rfl⟩
abbrev main_v162 : Ref sig .tc := ⟨.hbm, 279, rfl⟩
abbrev main_v163 : Ref sig .tc := ⟨.hbm, 280, rfl⟩
abbrev main_v164 : Ref sig .tc := ⟨.hbm, 281, rfl⟩
abbrev main_v165 : Ref sig .tc := ⟨.hbm, 282, rfl⟩
abbrev main_cst_36 : Ref sig .tc := ⟨.hbm, 283, rfl⟩
abbrev main_v166 : Ref sig .tc := ⟨.hbm, 284, rfl⟩
abbrev main_v167 : Ref sig .tc := ⟨.hbm, 285, rfl⟩
abbrev main_v168 : Ref sig .tc := ⟨.hbm, 286, rfl⟩
abbrev main_v169 : Ref sig .tc := ⟨.hbm, 287, rfl⟩
abbrev main_v170 : Ref sig .tc := ⟨.hbm, 288, rfl⟩
abbrev main_cst_37 : Ref sig .tc := ⟨.hbm, 289, rfl⟩
abbrev main_v171 : Ref sig .tc := ⟨.hbm, 290, rfl⟩
abbrev main_v172 : Ref sig .tc := ⟨.hbm, 291, rfl⟩
abbrev main_v173 : Ref sig .tc := ⟨.hbm, 292, rfl⟩
abbrev main_v174 : Ref sig .tc := ⟨.hbm, 293, rfl⟩
abbrev main_v175 : Ref sig .tc := ⟨.hbm, 294, rfl⟩
abbrev main_cst_38 : Ref sig .tc := ⟨.hbm, 295, rfl⟩
abbrev main_v176 : Ref sig .tc := ⟨.hbm, 296, rfl⟩
abbrev main_v177 : Ref sig .tc := ⟨.hbm, 297, rfl⟩
abbrev main_v178 : Ref sig .tc := ⟨.hbm, 298, rfl⟩
abbrev main_v179 : Ref sig .tc := ⟨.hbm, 299, rfl⟩
abbrev main_cst_39 : Ref sig .tc := ⟨.hbm, 300, rfl⟩
abbrev main_v180 : Ref sig .tc := ⟨.hbm, 301, rfl⟩
abbrev main_v181 : Ref sig .tc := ⟨.hbm, 302, rfl⟩

abbrev nD : Nat := 1
abbrev τ : Topo := Topo.v7x

variable {F : FTy → Type} [FloatOps F]
-- ==== Proof.Index.lean ====
/- The positions a top-k reports, and the class, row and column they name: integer facts shared by the kernel and the reference. -/
module

public import Idealize.ShloMosaic.Lib.Pointwise
public import Idealize.ShloMosaic.Lib.Routing.Words
public import Idealize.ShloMosaic.Lib.Routing.OpsPair

@[expose] public section

set_option maxRecDepth 16384

noncomputable section

namespace Cert.Detect

open Idealize.ShloMosaic Idealize.ShloMosaic.Routing

/-- A top-k along axis `d` reports positions on that axis: each is the word of a number below the axis's extent. -/
theorem topK_position {α : Type} {s t : Shape} (d : Nat) (hd : d < s.rank) (gt : α → α → BitVec 1) (x : s.Idx → α)
    (h : s.Slices (fun _ => 0) t) (j : t.Idx) :
    ∃ n, n < s.size ⟨d, hd⟩ ∧ (Host.topK t d gt x h).2 j = BitVec.ofNat 32 n := by
  unfold Host.topK Host.sort2
  simp only [dif_pos hd]
  exact ⟨_, Fin.isLt _, rfl⟩

section Words
variable {s : Shape} (hb : shape0.BroadcastsInDim s (![] : Fin 0 → Fin s.rank))

/-- The floor division by 16384 of a word holding `n` holds `n / 16384`. -/
theorem div16384 (x : IVec s 32) (i : s.Idx) {n : Nat} (hx : x i = BitVec.ofNat 32 n) (hn : n < 2 ^ 31) :
    pyDiv hb x (constantI shape0 32 16384#32) i = BitVec.ofNat 32 (n / 16384) :=
  pyDiv_ap hb x _ i hx rfl hn (by decide) (by decide)

/-- The remainder by 16384 of a word holding `n` holds `n % 16384`. -/
theorem rem16384 (x : IVec s 32) (i : s.Idx) {n : Nat} (hx : x i = BitVec.ofNat 32 n) (hn : n < 2 ^ 31) :
    pyRem hb x (constantI shape0 32 16384#32) i = BitVec.ofNat 32 (n % 16384) :=
  pyRem_ap hb x _ i hx rfl hn (by decide) (by decide)

/-- The floor division by 128 of a word holding `n` holds `n / 128`. -/
theorem div128 (x : IVec s 32) (i : s.Idx) {n : Nat} (hx : x i = BitVec.ofNat 32 n) (hn : n < 2 ^ 31) :
    pyDiv hb x (constantI shape0 32 128#32) i = BitVec.ofNat 32 (n / 128) :=
  pyDiv_ap hb x _ i hx rfl hn (by decide) (by decide)

/-- The remainder by 128 of a word holding `n` holds `n % 128`. -/
theorem rem128 (x : IVec s 32) (i : s.Idx) {n : Nat} (hx : x i = BitVec.ofNat 32 n) (hn : n < 2 ^ 31) :
    pyRem hb x (constantI shape0 32 128#32) i = BitVec.ofNat 32 (n % 128) :=
  pyRem_ap hb x _ i hx rfl hn (by decide) (by decide)

/-- An index counted from the end when it is negative: `x + e` where `x < 0`, else `x`. -/
def wrap (e : BitVec 32) (x : IVec s 32) : IVec s 32 :=
  select (cmpi .slt x (broadcastInDim s ![] hb (constantI shape0 32 0#32))) (addi x (broadcastInDim s ![] hb (constantI shape0 32 e))) x

/-- A word holding a number below `2^31` is not negative: the wrap leaves it. -/
theorem wrap_ap (e : BitVec 32) (x : IVec s 32) (i : s.Idx) {n : Nat} (hx : x i = BitVec.ofNat 32 n) (hn : n < 2 ^ 31) :
    wrap hb e x i = BitVec.ofNat 32 n := by
  have h : (x i).toNat < 2 ^ (32 - 1) := by
    rw [hx, BitVec.toNat_ofNat, Nat.mod_eq_of_lt (by omega)]; exact hn
  exact (wrap_of_lt (x i) _ h).trans hx

/-- A word holding a number below `2^31`, read as a signed number, is that number. -/
theorem toInt_ofNat {n : Nat} (hn : n < 2 ^ 31) : (BitVec.ofNat 32 n).toInt.toNat = n := by
  rw [BitVec.toInt_eq_toNat_of_lt (by rw [BitVec.toNat_ofNat, Nat.mod_eq_of_lt (by omega)]; omega), BitVec.toNat_ofNat,
    Nat.mod_eq_of_lt (by omega)]
  rfl

end Words

end Cert.Detect

end
-- ==== Proof.TailIndex.lean ====
/- The kernel's host lines between the region and the gathers: the top-k and the class, row and column it names, from any contents. -/
module

public import proofs.«01_k».proof.Proof.Gen.KernelIdeal.Frame
public import proofs.«01_k».proof.Proof.Index
public import Idealize.ShloMosaic.Lib.StableHlo.Run

@[expose] public section

set_option maxRecDepth 16384

noncomputable section

namespace Cert.Detect

open Idealize.ShloMosaic Routing
open Cert.KernelIdeal Cert.KernelIdeal.Gen

variable (V : Valuation τ sig (Elt Ideal))

/-- The scores the top-k reads: the region's array with every image's cells in one row. -/
def scores (y : FVec Ideal S1280x128x128 .f32) : FVec Ideal S16x1310720 .f32 :=
  shapeCast S16x1310720 (shapeCast S16x80x128x128 y shapeCasts_S1280x128x128_S16x80x128x128) shapeCasts_S16x80x128x128_S16x1310720

/-- The hundred greatest scores of each image and their positions. -/
def top (x : FVec Ideal S16x1310720 .f32) : FVec Ideal S16x100 .f32 × IVec S16x100 32 :=
  Host.topK S16x100 1 (FloatOps.cmpfTotal .gt) x sliceFits_S16x1310720_S16x100

/-- The first line leaves the greatest scores, -/
theorem l0_values : StableHlo.after hostOps1 V (Proc.devRef .tc main_values) = (top (scores (V (Proc.devRef .tc main_v1)))).1 := by
  after_results_simp
  rfl

/-- their positions, -/
theorem l0_indices : StableHlo.after hostOps1 V (Proc.devRef .tc main_indices) = (top (scores (V (Proc.devRef .tc main_v1)))).2 := by
  after_results_simp
  rfl

/-- and the constant 16384. -/
theorem l0_c : StableHlo.after hostOps1 V (Proc.devRef .tc main_c) = constantI S_ 32 16384#32 := by
  after_results_simp

/-- The class: the position divided by the constant. -/
theorem l1_v4 : StableHlo.after hostOps1_1 V (Proc.devRef .tc main_v4) = pyDiv bcast_S_S16x100 (V (Proc.devRef .tc main_indices)) (V (Proc.devRef .tc main_c)) := by
  after_results_simp
  rfl

/-- The class as a float, with a trailing axis. -/
theorem l2_v6 : StableHlo.after hostOps1_2 V (Proc.devRef .tc main_v6) = broadcastInDim S16x100x1 ![0, 1] bcast_S16x100_S16x100x1_0_1 (sitofp (F := Ideal) .f32 (V (Proc.devRef .tc main_v4))) := by
  after_results_simp

/-- The constant 16384 again. -/
theorem l2_c : StableHlo.after hostOps1_2 V (Proc.devRef .tc main_c_0) = constantI S_ 32 16384#32 := by
  after_results_simp

/-- The cell within its plane: the position's remainder by the constant. -/
theorem l3_v7 : StableHlo.after hostOps1_3 V (Proc.devRef .tc main_v7) = pyRem bcast_S_S16x100 (V (Proc.devRef .tc main_indices)) (V (Proc.devRef .tc main_c_0)) := by
  simp only [hostOps1_3, StableHlo.TRef.binary, StableHlo.TRef.nullary, StableHlo.TRef.ternary, StableHlo.TRef.unary, StableHlo.TRef.toBuf,
    StableHlo.TRef.ofBuf, cast_eq]
  after_results_simp
  rfl

/-- The constant 128. -/
theorem l4_c : StableHlo.after hostOps1_4 V (Proc.devRef .tc main_c_1) = constantI S_ 32 128#32 := by
  after_results_simp

/-- The row: the cell divided by the constant. -/
theorem l5_v8 : StableHlo.after hostOps1_5 V (Proc.devRef .tc main_v8) = pyDiv bcast_S_S16x100 (V (Proc.devRef .tc main_v7)) (V (Proc.devRef .tc main_c_1)) := by
  after_results_simp
  rfl

/-- The constant 128 again. -/
theorem l6_c : StableHlo.after hostOps1_6 V (Proc.devRef .tc main_c_2) = constantI S_ 32 128#32 := by
  after_results_simp

/-- The column: the cell's remainder by the constant. -/
theorem l7_v9 : StableHlo.after hostOps1_7 V (Proc.devRef .tc main_v9) = pyRem bcast_S_S16x100 (V (Proc.devRef .tc main_v7)) (V (Proc.devRef .tc main_c_2)) := by
  simp only [hostOps1_7, StableHlo.TRef.binary, StableHlo.TRef.nullary, StableHlo.TRef.ternary, StableHlo.TRef.unary, StableHlo.TRef.toBuf,
    StableHlo.TRef.ofBuf, cast_eq]
  after_results_simp
  rfl

/-- The first result: the class where the score passes, else the constant. -/
theorem l9_v132 : StableHlo.after hostOps1_9 V (Proc.devRef .tc main_v132)
    = select (V (Proc.devRef .tc main_v131)) (V (Proc.devRef .tc main_v6)) (broadcastInDim S16x100x1 ![] bcast_S_S16x100x1 (V (Proc.devRef .tc main_cst_35))) := by
  after_results_simp
  rfl

/-- The constant −1. -/
theorem l10_c : StableHlo.after hostOps1_10 V (Proc.devRef .tc main_cst_36) = constant (F := Ideal) S_ .f32 0xBF800000#32 := by
  after_results_simp

/-- The second result: the score where it passes, else the constant. -/
theorem l11_v133 : StableHlo.after hostOps1_11 V (Proc.devRef .tc main_v133)
    = select (V (Proc.devRef .tc main_v131)) (V (Proc.devRef .tc main_v129)) (broadcastInDim S16x100x1 ![] bcast_S_S16x100x1 (V (Proc.devRef .tc main_cst_36))) := by
  after_results_simp
  rfl

/-- The constant −1 again. -/
theorem l12_c : StableHlo.after hostOps1_12 V (Proc.devRef .tc main_cst_37) = constant (F := Ideal) S_ .f32 0xBF800000#32 := by
  after_results_simp

/-- The box where the score passes, else the constant. -/
theorem l13_v134 : StableHlo.after hostOps1_13 V (Proc.devRef .tc main_v134)
    = select (broadcastInDim S16x100x4 ![0, 1, 2] bcast_S16x100x1_S16x100x4_0_1_2 (V (Proc.devRef .tc main_v131))) (V (Proc.devRef .tc main_v128))
        (broadcastInDim S16x100x4 ![] bcast_S_S16x100x4 (V (Proc.devRef .tc main_cst_37))) := by
  after_results_simp
  rfl

/-- The third result: four times the masked box. -/
theorem l14_v136 : StableHlo.after hostOps1_14 V (Proc.devRef .tc main_v136)
    = mulf (F := Ideal) (V (Proc.devRef .tc main_v134)) (broadcastInDim S16x100x4 ![] bcast_S_S16x100x4 (constant S_ .f32 0x40800000#32)) := by
  after_results_simp

end Cert.Detect

end
-- ==== Proof.TailGather.lean ====
/- The kernel's long host line: the four gathers and the box they make, read in five parts, from any contents. -/
module

public import proofs.«01_k».proof.Proof.TailIndex

@[expose] public section

set_option maxRecDepth 16384

noncomputable section

namespace Cert.Detect

open Idealize.ShloMosaic Routing
open Cert.KernelIdeal Cert.KernelIdeal.Gen

variable (V : Valuation τ sig (Elt Ideal))

/-- The number of each image, as a column. -/
def imageCol : IVec S16x1 32 :=
  broadcastInDim S16x1 ![0] bcast_S16_S16x1_0 (iotaInDim S16 32 0)

/-- The four-component index of a gather: image, channel, row, column, each wrapped into its axis. -/
def pickIdx (b : IVec S16x1 32) (ch : BitVec 32) (ys xs : IVec S16x100 32) : IVec S16x100x4 32 :=
  concatenate S16x100x4 2 [
    ⟨S16x100x1, broadcastInDim S16x100x1 ![0, 1] bcast_S16x100_S16x100x1_0_1 (broadcastInDim S16x100 ![0, 1] bcast_S16x1_S16x100_0_1 (wrap bcast_S_S16x1 16#32 b))⟩,
    ⟨S16x100x1, broadcastInDim S16x100x1 ![0, 1] bcast_S16x100_S16x100x1_0_1 (broadcastInDim S16x100 ![] bcast_S_S16x100 (constantI S_ 32 ch))⟩,
    ⟨S16x100x1, broadcastInDim S16x100x1 ![0, 1] bcast_S16x100_S16x100x1_0_1 (wrap bcast_S_S16x100 128#32 ys)⟩,
    ⟨S16x100x1, broadcastInDim S16x100x1 ![0, 1] bcast_S16x100_S16x100x1_0_1 (wrap bcast_S_S16x100 128#32 xs)⟩]
    concatenates_S16x100x1_S16x100x1_S16x100x1_S16x100x1_S16x100x4_d2

/-- The map `x` read at channel `ch` and the given rows and columns of each image. -/
def pick (x : FVec Ideal S16x2x128x128 .f32) (b : IVec S16x1 32) (ch : BitVec 32) (ys xs : IVec S16x100 32) : FVec Ideal S16x100 .f32 :=
  Host.gather gather_S16x2x128x128_S16x100x4_S16x100_n_0123_n_n_0123_2_1111 x (pickIdx b ch ys xs)

/-- The four corners' coordinates of the boxes: centre less half the size, then centre plus half the size, across before down. -/
def box (ys xs : IVec S16x100 32) (ox oy w h : FVec Ideal S16x100 .f32) : FVec Ideal S16x100x4 .f32 :=
  concatenate S16x100x4 2 [
    ⟨S16x100x1, broadcastInDim S16x100x1 ![0, 1] bcast_S16x100_S16x100x1_0_1 (subf (addf (sitofp .f32 xs) ox) (Host.divf w (broadcastInDim S16x100 ![] bcast_S_S16x100 (constant S_ .f32 0x40000000#32))))⟩,
    ⟨S16x100x1, broadcastInDim S16x100x1 ![0, 1] bcast_S16x100_S16x100x1_0_1 (subf (addf (sitofp .f32 ys) oy) (Host.divf h (broadcastInDim S16x100 ![] bcast_S_S16x100 (constant S_ .f32 0x40000000#32))))⟩,
    ⟨S16x100x1, broadcastInDim S16x100x1 ![0, 1] bcast_S16x100_S16x100x1_0_1 (addf (addf (sitofp .f32 xs) ox) (Host.divf w (broadcastInDim S16x100 ![] bcast_S_S16x100 (constant S_ .f32 0x40000000#32))))⟩,
    ⟨S16x100x1, broadcastInDim S16x100x1 ![0, 1] bcast_S16x100_S16x100x1_0_1 (addf (addf (sitofp .f32 ys) oy) (Host.divf h (broadcastInDim S16x100 ![] bcast_S_S16x100 (constant S_ .f32 0x40000000#32))))⟩]
    concatenates_S16x100x1_S16x100x1_S16x100x1_S16x100x1_S16x100x4_d2

/-- The operations up to the first gather. -/
abbrev partA : List (HloOp τ sig (Elt Ideal)) := hostOps1_8.take 33

/-- Those after it, up to the second. -/
abbrev partB : List (HloOp τ sig (Elt Ideal)) := (hostOps1_8.drop 33).take 31

/-- Those after it, up to the third. -/
abbrev partC : List (HloOp τ sig (Elt Ideal)) := (hostOps1_8.drop 64).take 31

/-- Those after it, up to the fourth. -/
abbrev partD : List (HloOp τ sig (Elt Ideal)) := (hostOps1_8.drop 95).take 31

/-- Those after the fourth gather. -/
abbrev partE : List (HloOp τ sig (Elt Ideal)) := hostOps1_8.drop 126

/-- The long line is its five parts in order. -/
theorem line_parts : StableHlo.after hostOps1_8 V
    = StableHlo.after partE (StableHlo.after partD (StableHlo.after partC (StableHlo.after partB (StableHlo.after partA V)))) := by
  rw [← StableHlo.after_append, ← StableHlo.after_append, ← StableHlo.after_append, ← StableHlo.after_append]
  rfl

/-- A buffer that part A does not write keeps its contents through it. -/
theorem keepA (r : Ref sig .tc) (h : r ∉ hostOps1_8_W.take 33) : StableHlo.after partA V (Proc.devRef .tc r) = V (Proc.devRef .tc r) :=
  StableHlo.after_of_writes_sub (r := r) partA V (StableHlo.forall_writes_sub_of_map rfl) h

/-- A buffer that part B does not write keeps its contents through it. -/
theorem keepB (r : Ref sig .tc) (h : r ∉ (hostOps1_8_W.drop 33).take 31) : StableHlo.after partB V (Proc.devRef .tc r) = V (Proc.devRef .tc r) :=
  StableHlo.after_of_writes_sub (r := r) partB V (StableHlo.forall_writes_sub_of_map rfl) h

/-- A buffer that part C does not write keeps its contents through it. -/
theorem keepC (r : Ref sig .tc) (h : r ∉ (hostOps1_8_W.drop 64).take 31) : StableHlo.after partC V (Proc.devRef .tc r) = V (Proc.devRef .tc r) :=
  StableHlo.after_of_writes_sub (r := r) partC V (StableHlo.forall_writes_sub_of_map rfl) h

/-- A buffer that part D does not write keeps its contents through it. -/
theorem keepD (r : Ref sig .tc) (h : r ∉ (hostOps1_8_W.drop 95).take 31) : StableHlo.after partD V (Proc.devRef .tc r) = V (Proc.devRef .tc r) :=
  StableHlo.after_of_writes_sub (r := r) partD V (StableHlo.forall_writes_sub_of_map rfl) h

/-- A buffer that part E does not write keeps its contents through it. -/
theorem keepE (r : Ref sig .tc) (h : r ∉ (hostOps1_8_W.drop 126).take 30) : StableHlo.after partE V (Proc.devRef .tc r) = V (Proc.devRef .tc r) :=
  StableHlo.after_of_writes_sub (r := r) partE V (StableHlo.forall_writes_sub_of_map rfl) h

/-- Part A ends with the first gather: the offset map at channel 0. -/
theorem partA_v35 : StableHlo.after partA V (Proc.devRef .tc main_v35)
    = pick (V (Proc.devRef .tc main_arg1)) imageCol 0#32 (V (Proc.devRef .tc main_v8)) (V (Proc.devRef .tc main_v9)) := by
  simp only [partA, partB, partC, partD, partE, hostOps1_8, List.drop_succ_cons, List.drop_zero, List.take_succ_cons, List.take_zero]
  after_results_simp
  rfl

/-- Part A also leaves the column of image numbers. -/
theorem partA_v11 : StableHlo.after partA V (Proc.devRef .tc main_v11) = imageCol := by
  simp only [partA, partB, partC, partD, partE, hostOps1_8, List.drop_succ_cons, List.drop_zero, List.take_succ_cons, List.take_zero]
  after_results_simp
  rfl

/-- Part B ends with the second gather: the offset map at channel 1. -/
theorem partB_v59 : StableHlo.after partB V (Proc.devRef .tc main_v59)
    = pick (V (Proc.devRef .tc main_arg1)) (V (Proc.devRef .tc main_v11)) 1#32 (V (Proc.devRef .tc main_v8)) (V (Proc.devRef .tc main_v9)) := by
  simp only [partA, partB, partC, partD, partE, hostOps1_8, List.drop_succ_cons, List.drop_zero, List.take_succ_cons, List.take_zero]
  after_results_simp
  rfl

/-- Part C ends with the third gather: the size map at channel 0. -/
theorem partC_v83 : StableHlo.after partC V (Proc.devRef .tc main_v83)
    = pick (V (Proc.devRef .tc main_arg2)) (V (Proc.devRef .tc main_v11)) 0#32 (V (Proc.devRef .tc main_v8)) (V (Proc.devRef .tc main_v9)) := by
  simp only [partA, partB, partC, partD, partE, hostOps1_8, List.drop_succ_cons, List.drop_zero, List.take_succ_cons, List.take_zero]
  after_results_simp
  rfl

/-- Part D ends with the fourth gather: the size map at channel 1. -/
theorem partD_v107 : StableHlo.after partD V (Proc.devRef .tc main_v107)
    = pick (V (Proc.devRef .tc main_arg2)) (V (Proc.devRef .tc main_v11)) 1#32 (V (Proc.devRef .tc main_v8)) (V (Proc.devRef .tc main_v9)) := by
  simp only [partA, partB, partC, partD, partE, hostOps1_8, List.drop_succ_cons, List.drop_zero, List.take_succ_cons, List.take_zero]
  after_results_simp
  rfl

/-- Part E leaves the boxes, -/
theorem partE_v128 : StableHlo.after partE V (Proc.devRef .tc main_v128)
    = box (V (Proc.devRef .tc main_v8)) (V (Proc.devRef .tc main_v9)) (V (Proc.devRef .tc main_v35)) (V (Proc.devRef .tc main_v59)) (V (Proc.devRef .tc main_v83)) (V (Proc.devRef .tc main_v107)) := by
  simp only [partA, partB, partC, partD, partE, hostOps1_8, List.drop_succ_cons, List.drop_zero, List.take_succ_cons, List.take_zero]
  after_results_simp
  rfl

/-- the scores with a trailing axis, -/
theorem partE_v129 : StableHlo.after partE V (Proc.devRef .tc main_v129)
    = broadcastInDim S16x100x1 ![0, 1] bcast_S16x100_S16x100x1_0_1 (V (Proc.devRef .tc main_values)) := by
  simp only [partA, partB, partC, partD, partE, hostOps1_8, List.drop_succ_cons, List.drop_zero, List.take_succ_cons, List.take_zero]
  after_results_simp

/-- where they pass the threshold, -/
theorem partE_v131 : StableHlo.after partE V (Proc.devRef .tc main_v131)
    = cmpf (F := Ideal) .ogt (broadcastInDim S16x100x1 ![0, 1] bcast_S16x100_S16x100x1_0_1 (V (Proc.devRef .tc main_values)))
        (broadcastInDim S16x100x1 ![] bcast_S_S16x100x1 (constant S_ .f32 0x3C23D70A#32)) := by
  simp only [partA, partB, partC, partD, partE, hostOps1_8, List.drop_succ_cons, List.drop_zero, List.take_succ_cons, List.take_zero]
  after_results_simp

/-- and the constant −1. -/
theorem partE_c : StableHlo.after partE V (Proc.devRef .tc main_cst_35) = constant (F := Ideal) S_ .f32 0xBF800000#32 := by
  simp only [partA, partB, partC, partD, partE, hostOps1_8, List.drop_succ_cons, List.drop_zero, List.take_succ_cons, List.take_zero]
  after_results_simp

end Cert.Detect

end
-- ==== Proof.Tail.lean ====
/- The kernel's host lines after the region, put together: each result over the region's array and the two maps. -/
module

public import proofs.«01_k».proof.Proof.TailGather

@[expose] public section

set_option maxRecDepth 16384

noncomputable section

namespace Cert.Detect

open Idealize.ShloMosaic Routing
open Cert.KernelIdeal Cert.KernelIdeal.Gen

variable (V : Valuation τ sig (Elt Ideal))

/-- The cell of its plane that a position names. -/
def cellOf (p : IVec S16x100 32) : IVec S16x100 32 := pyRem bcast_S_S16x100 p (constantI S_ 32 16384#32)

/-- The row of a position. -/
def rowOf (p : IVec S16x100 32) : IVec S16x100 32 := pyDiv bcast_S_S16x100 (cellOf p) (constantI S_ 32 128#32)

/-- The column of a position. -/
def colOf (p : IVec S16x100 32) : IVec S16x100 32 := pyRem bcast_S_S16x100 (cellOf p) (constantI S_ 32 128#32)

/-- The class of a position, as a float with a trailing axis. -/
def classOf (p : IVec S16x100 32) : FVec Ideal S16x100x1 .f32 :=
  broadcastInDim S16x100x1 ![0, 1] bcast_S16x100_S16x100x1_0_1 (sitofp .f32 (pyDiv bcast_S_S16x100 p (constantI S_ 32 16384#32)))

/-- A score array with a trailing axis. -/
def scoreOf (v : FVec Ideal S16x100 .f32) : FVec Ideal S16x100x1 .f32 :=
  broadcastInDim S16x100x1 ![0, 1] bcast_S16x100_S16x100x1_0_1 v

/-- Where the scores pass the threshold. -/
def passes (v : FVec Ideal S16x100 .f32) : IVec S16x100x1 1 :=
  cmpf .ogt (scoreOf v) (broadcastInDim S16x100x1 ![] bcast_S_S16x100x1 (constant (F := Ideal) S_ .f32 0x3C23D70A#32))

/-- The boxes of the positions `p`, from the offset map and the size map. -/
def boxOf (off size : FVec Ideal S16x2x128x128 .f32) (p : IVec S16x100 32) : FVec Ideal S16x100x4 .f32 :=
  box (rowOf p) (colOf p) (pick off imageCol 0#32 (rowOf p) (colOf p)) (pick off imageCol 1#32 (rowOf p) (colOf p))
    (pick size imageCol 0#32 (rowOf p) (colOf p)) (pick size imageCol 1#32 (rowOf p) (colOf p))

/-- Minus one, at every entry of a score array. -/
def minusOne : FVec Ideal S16x100x1 .f32 := broadcastInDim S16x100x1 ![] bcast_S_S16x100x1 (constant S_ .f32 0xBF800000#32)

/-- The contents when the long line starts. -/
def mid : Valuation τ sig (Elt Ideal) :=
  StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 V)))))))

/-- The contents when the long line ends. -/
def long : Valuation τ sig (Elt Ideal) := StableHlo.after hostOps1_8 V

/-- The contents at the end, from those when the long line ends. -/
def last : Valuation τ sig (Elt Ideal) :=
  StableHlo.after hostOps1_14 (StableHlo.after hostOps1_13 (StableHlo.after hostOps1_12 (StableHlo.after hostOps1_11 (StableHlo.after hostOps1_10 (StableHlo.after hostOps1_9 V)))))

/-- The scores, when the long line starts. -/
theorem mid_values : mid V (Proc.devRef .tc main_values) = (top (scores (V (Proc.devRef .tc main_v1)))).1 := by
  unfold mid
  rw [StableHlo.after_of_writes_sub (r := main_values) hostOps1_7 _ hostOps1_7_writes (by decide +kernel),
    StableHlo.after_of_writes_sub (r := main_values) hostOps1_6 _ hostOps1_6_writes (by decide +kernel),
    StableHlo.after_of_writes_sub (r := main_values) hostOps1_5 _ hostOps1_5_writes (by decide +kernel),
    StableHlo.after_of_writes_sub (r := main_values) hostOps1_4 _ hostOps1_4_writes (by decide +kernel),
    StableHlo.after_of_writes_sub (r := main_values) hostOps1_3 _ hostOps1_3_writes (by decide +kernel),
    StableHlo.after_of_writes_sub (r := main_values) hostOps1_2 _ hostOps1_2_writes (by decide +kernel),
    StableHlo.after_of_writes_sub (r := main_values) hostOps1_1 _ hostOps1_1_writes (by decide +kernel),
    l0_values]

/-- The classes, when the long line starts. -/
theorem mid_v6 : mid V (Proc.devRef .tc main_v6) = classOf (top (scores (V (Proc.devRef .tc main_v1)))).2 := by
  unfold mid classOf
  rw [StableHlo.after_of_writes_sub (r := main_v6) hostOps1_7 _ hostOps1_7_writes (by decide +kernel),
    StableHlo.after_of_writes_sub (r := main_v6) hostOps1_6 _ hostOps1_6_writes (by decide +kernel),
    StableHlo.after_of_writes_sub (r := main_v6) hostOps1_5 _ hostOps1_5_writes (by decide +kernel),
    StableHlo.after_of_writes_sub (r := main_v6) hostOps1_4 _ hostOps1_4_writes (by decide +kernel),
    StableHlo.after_of_writes_sub (r := main_v6) hostOps1_3 _ hostOps1_3_writes (by decide +kernel),
    l2_v6,
    l1_v4,
    l0_indices,
    l0_c]

/-- The rows, when the long line starts. -/
theorem mid_v8 : mid V (Proc.devRef .tc main_v8) = rowOf (top (scores (V (Proc.devRef .tc main_v1)))).2 := by
  unfold mid rowOf cellOf
  rw [StableHlo.after_of_writes_sub (r := main_v8) hostOps1_7 _ hostOps1_7_writes (by decide +kernel),
    StableHlo.after_of_writes_sub (r := main_v8) hostOps1_6 _ hostOps1_6_writes (by decide +kernel),
    l5_v8,
    l4_c,
    StableHlo.after_of_writes_sub (r := main_v7) hostOps1_4 _ hostOps1_4_writes (by decide +kernel),
    l3_v7,
    StableHlo.after_of_writes_sub (r := main_indices) hostOps1_2 _ hostOps1_2_writes (by decide +kernel),
    StableHlo.after_of_writes_sub (r := main_indices) hostOps1_1 _ hostOps1_1_writes (by decide +kernel),
    l0_indices,
    l2_c]

/-- The columns, when the long line starts. -/
theorem mid_v9 : mid V (Proc.devRef .tc main_v9) = colOf (top (scores (V (Proc.devRef .tc main_v1)))).2 := by
  unfold mid colOf cellOf
  rw [l7_v9,
    l6_c,
    StableHlo.after_of_writes_sub (r := main_v7) hostOps1_6 _ hostOps1_6_writes (by decide +kernel),
    StableHlo.after_of_writes_sub (r := main_v7) hostOps1_5 _ hostOps1_5_writes (by decide +kernel),
    StableHlo.after_of_writes_sub (r := main_v7) hostOps1_4 _ hostOps1_4_writes (by decide +kernel),
    l3_v7,
    StableHlo.after_of_writes_sub (r := main_indices) hostOps1_2 _ hostOps1_2_writes (by decide +kernel),
    StableHlo.after_of_writes_sub (r := main_indices) hostOps1_1 _ hostOps1_1_writes (by decide +kernel),
    l0_indices,
    l2_c]

/-- A map the host lines do not write, when the long line starts. -/
theorem mid_arg1 : mid V (Proc.devRef .tc main_arg1) = V (Proc.devRef .tc main_arg1) := by
  unfold mid
  rw [StableHlo.after_of_writes_sub (r := main_arg1) hostOps1_7 _ hostOps1_7_writes (by decide +kernel),
    StableHlo.after_of_writes_sub (r := main_arg1) hostOps1_6 _ hostOps1_6_writes (by decide +kernel),
    StableHlo.after_of_writes_sub (r := main_arg1) hostOps1_5 _ hostOps1_5_writes (by decide +kernel),
    StableHlo.after_of_writes_sub (r := main_arg1) hostOps1_4 _ hostOps1_4_writes (by decide +kernel),
    StableHlo.after_of_writes_sub (r := main_arg1) hostOps1_3 _ hostOps1_3_writes (by decide +kernel),
    StableHlo.after_of_writes_sub (r := main_arg1) hostOps1_2 _ hostOps1_2_writes (by decide +kernel),
    StableHlo.after_of_writes_sub (r := main_arg1) hostOps1_1 _ hostOps1_1_writes (by decide +kernel),
    StableHlo.after_of_writes_sub (r := main_arg1) hostOps1 _ hostOps1_writes (by decide +kernel)]

/-- A map the host lines do not write, when the long line starts. -/
theorem mid_arg2 : mid V (Proc.devRef .tc main_arg2) = V (Proc.devRef .tc main_arg2) := by
  unfold mid
  rw [StableHlo.after_of_writes_sub (r := main_arg2) hostOps1_7 _ hostOps1_7_writes (by decide +kernel),
    StableHlo.after_of_writes_sub (r := main_arg2) hostOps1_6 _ hostOps1_6_writes (by decide +kernel),
    StableHlo.after_of_writes_sub (r := main_arg2) hostOps1_5 _ hostOps1_5_writes (by decide +kernel),
    StableHlo.after_of_writes_sub (r := main_arg2) hostOps1_4 _ hostOps1_4_writes (by decide +kernel),
    StableHlo.after_of_writes_sub (r := main_arg2) hostOps1_3 _ hostOps1_3_writes (by decide +kernel),
    StableHlo.after_of_writes_sub (r := main_arg2) hostOps1_2 _ hostOps1_2_writes (by decide +kernel),
    StableHlo.after_of_writes_sub (r := main_arg2) hostOps1_1 _ hostOps1_1_writes (by decide +kernel),
    StableHlo.after_of_writes_sub (r := main_arg2) hostOps1 _ hostOps1_writes (by decide +kernel)]

/-- The classes, when the long line ends. -/
theorem long_v6 : long V (Proc.devRef .tc main_v6) = V (Proc.devRef .tc main_v6) := by
  unfold long
  rw [StableHlo.after_of_writes_sub (r := main_v6) hostOps1_8 _ hostOps1_8_writes (by decide +kernel)]

/-- The scores with a trailing axis, when the long line ends. -/
theorem long_v129 : long V (Proc.devRef .tc main_v129) = scoreOf (V (Proc.devRef .tc main_values)) := by
  unfold long scoreOf
  rw [line_parts,
    partE_v129,
    keepD _ main_values (by decide +kernel),
    keepC _ main_values (by decide +kernel),
    keepB _ main_values (by decide +kernel),
    keepA _ main_values (by decide +kernel)]

/-- Where the scores pass, when the long line ends. -/
theorem long_v131 : long V (Proc.devRef .tc main_v131) = passes (V (Proc.devRef .tc main_values)) := by
  unfold long passes scoreOf
  rw [line_parts,
    partE_v131,
    keepD _ main_values (by decide +kernel),
    keepC _ main_values (by decide +kernel),
    keepB _ main_values (by decide +kernel),
    keepA _ main_values (by decide +kernel)]

/-- The constant −1, when the long line ends. -/
theorem long_c : long V (Proc.devRef .tc main_cst_35) = constant (F := Ideal) S_ .f32 0xBF800000#32 := by
  unfold long
  rw [line_parts,
    partE_c]

/-- The boxes, when the long line ends. -/
theorem long_v128 : long V (Proc.devRef .tc main_v128)
    = box (V (Proc.devRef .tc main_v8)) (V (Proc.devRef .tc main_v9)) (pick (V (Proc.devRef .tc main_arg1)) imageCol 0#32 (V (Proc.devRef .tc main_v8)) (V (Proc.devRef .tc main_v9))) (pick (V (Proc.devRef .tc main_arg1)) imageCol 1#32 (V (Proc.devRef .tc main_v8)) (V (Proc.devRef .tc main_v9)))
        (pick (V (Proc.devRef .tc main_arg2)) imageCol 0#32 (V (Proc.devRef .tc main_v8)) (V (Proc.devRef .tc main_v9))) (pick (V (Proc.devRef .tc main_arg2)) imageCol 1#32 (V (Proc.devRef .tc main_v8)) (V (Proc.devRef .tc main_v9))) := by
  have h8 (r : Ref sig .tc) (hr : r = main_v8 ∨ r = main_v9 ∨ r = main_arg1 ∨ r = main_arg2) :
      StableHlo.after partA V (Proc.devRef .tc r) = V (Proc.devRef .tc r)
      ∧ StableHlo.after partB (StableHlo.after partA V) (Proc.devRef .tc r) = V (Proc.devRef .tc r)
      ∧ StableHlo.after partC (StableHlo.after partB (StableHlo.after partA V)) (Proc.devRef .tc r) = V (Proc.devRef .tc r)
      ∧ StableHlo.after partD (StableHlo.after partC (StableHlo.after partB (StableHlo.after partA V))) (Proc.devRef .tc r) = V (Proc.devRef .tc r) := by
    have a := keepA V r (by rcases hr with rfl | rfl | rfl | rfl <;> decide +kernel)
    have b := keepB (StableHlo.after partA V) r (by rcases hr with rfl | rfl | rfl | rfl <;> decide +kernel)
    have c := keepC (StableHlo.after partB (StableHlo.after partA V)) r (by rcases hr with rfl | rfl | rfl | rfl <;> decide +kernel)
    have d := keepD (StableHlo.after partC (StableHlo.after partB (StableHlo.after partA V))) r (by rcases hr with rfl | rfl | rfl | rfl <;> decide +kernel)
    exact ⟨a, b.trans a, c.trans (b.trans a), d.trans (c.trans (b.trans a))⟩
  have e8 := h8 main_v8 (Or.inl rfl)
  have e9 := h8 main_v9 (Or.inr (Or.inl rfl))
  have e1 := h8 main_arg1 (Or.inr (Or.inr (Or.inl rfl)))
  have e2 := h8 main_arg2 (Or.inr (Or.inr (Or.inr rfl)))
  unfold long
  rw [line_parts, partE_v128, e8.2.2.2, e9.2.2.2,
    keepD _ main_v35 (by decide +kernel), keepC _ main_v35 (by decide +kernel), keepB _ main_v35 (by decide +kernel), partA_v35,
    keepD _ main_v59 (by decide +kernel), keepC _ main_v59 (by decide +kernel), partB_v59, partA_v11, e1.1, e8.1, e9.1,
    keepD _ main_v83 (by decide +kernel), partC_v83, keepB _ main_v11 (by decide +kernel), partA_v11, e2.2.1, e8.2.1, e9.2.1,
    partD_v107, keepC _ main_v11 (by decide +kernel), keepB _ main_v11 (by decide +kernel), partA_v11, e2.2.2.1, e8.2.2.1, e9.2.2.1]

/-- The first result, from what the long line leaves. -/
theorem last_v132 (hc : V (Proc.devRef .tc main_cst_35) = constant (F := Ideal) S_ .f32 0xBF800000#32) :
    last V (Proc.devRef .tc main_v132) = select (V (Proc.devRef .tc main_v131)) (V (Proc.devRef .tc main_v6)) minusOne := by
  unfold last minusOne
  rw [StableHlo.after_of_writes_sub (r := main_v132) hostOps1_14 _ hostOps1_14_writes (by decide +kernel),
    StableHlo.after_of_writes_sub (r := main_v132) hostOps1_13 _ hostOps1_13_writes (by decide +kernel),
    StableHlo.after_of_writes_sub (r := main_v132) hostOps1_12 _ hostOps1_12_writes (by decide +kernel),
    StableHlo.after_of_writes_sub (r := main_v132) hostOps1_11 _ hostOps1_11_writes (by decide +kernel),
    StableHlo.after_of_writes_sub (r := main_v132) hostOps1_10 _ hostOps1_10_writes (by decide +kernel),
    l9_v132,
    hc]

/-- The second result, from what the long line leaves. -/
theorem last_v133 : last V (Proc.devRef .tc main_v133) = select (V (Proc.devRef .tc main_v131)) (V (Proc.devRef .tc main_v129)) minusOne := by
  unfold last minusOne
  rw [StableHlo.after_of_writes_sub (r := main_v133) hostOps1_14 _ hostOps1_14_writes (by decide +kernel),
    StableHlo.after_of_writes_sub (r := main_v133) hostOps1_13 _ hostOps1_13_writes (by decide +kernel),
    StableHlo.after_of_writes_sub (r := main_v133) hostOps1_12 _ hostOps1_12_writes (by decide +kernel),
    l11_v133,
    l10_c,
    StableHlo.after_of_writes_sub (r := main_v131) hostOps1_10 _ hostOps1_10_writes (by decide +kernel),
    StableHlo.after_of_writes_sub (r := main_v131) hostOps1_9 _ hostOps1_9_writes (by decide +kernel),
    StableHlo.after_of_writes_sub (r := main_v129) hostOps1_10 _ hostOps1_10_writes (by decide +kernel),
    StableHlo.after_of_writes_sub (r := main_v129) hostOps1_9 _ hostOps1_9_writes (by decide +kernel)]

/-- The boxes `b` kept where `c` holds, minus one elsewhere, all four times. -/
def masked (c : IVec S16x100x1 1) (b : FVec Ideal S16x100x4 .f32) : FVec Ideal S16x100x4 .f32 :=
  mulf (select (broadcastInDim S16x100x4 ![0, 1, 2] bcast_S16x100x1_S16x100x4_0_1_2 c) b
      (broadcastInDim S16x100x4 ![] bcast_S_S16x100x4 (constant S_ .f32 0xBF800000#32)))
    (broadcastInDim S16x100x4 ![] bcast_S_S16x100x4 (constant S_ .f32 0x40800000#32))

/-- The third result, from what the long line leaves. -/
theorem last_v136 : last V (Proc.devRef .tc main_v136) = masked (V (Proc.devRef .tc main_v131)) (V (Proc.devRef .tc main_v128)) := by
  unfold last masked
  rw [l14_v136,
    l13_v134,
    l12_c,
    StableHlo.after_of_writes_sub (r := main_v131) hostOps1_12 _ hostOps1_12_writes (by decide +kernel),
    StableHlo.after_of_writes_sub (r := main_v131) hostOps1_11 _ hostOps1_11_writes (by decide +kernel),
    StableHlo.after_of_writes_sub (r := main_v131) hostOps1_10 _ hostOps1_10_writes (by decide +kernel),
    StableHlo.after_of_writes_sub (r := main_v131) hostOps1_9 _ hostOps1_9_writes (by decide +kernel),
    StableHlo.after_of_writes_sub (r := main_v128) hostOps1_12 _ hostOps1_12_writes (by decide +kernel),
    StableHlo.after_of_writes_sub (r := main_v128) hostOps1_11 _ hostOps1_11_writes (by decide +kernel),
    StableHlo.after_of_writes_sub (r := main_v128) hostOps1_10 _ hostOps1_10_writes (by decide +kernel),
    StableHlo.after_of_writes_sub (r := main_v128) hostOps1_9 _ hostOps1_9_writes (by decide +kernel)]

/-- The first result over the region's array: the classes of the greatest scores that pass, minus one for the others. -/
theorem tail_v132 : last (long (mid V)) (Proc.devRef .tc main_v132) = select (passes (top (scores (V (Proc.devRef .tc main_v1)))).1) (classOf (top (scores (V (Proc.devRef .tc main_v1)))).2) minusOne := by
  rw [last_v132 _ (long_c _), long_v131, long_v6, mid_values, mid_v6]

/-- The second result: the greatest scores that pass, minus one for the others. -/
theorem tail_v133 : last (long (mid V)) (Proc.devRef .tc main_v133) = select (passes (top (scores (V (Proc.devRef .tc main_v1)))).1) (scoreOf (top (scores (V (Proc.devRef .tc main_v1)))).1) minusOne := by
  rw [last_v133, long_v131, long_v129, mid_values]

/-- The third result: the boxes of the greatest scores that pass. -/
theorem tail_v136 : last (long (mid V)) (Proc.devRef .tc main_v136)
    = masked (passes (top (scores (V (Proc.devRef .tc main_v1)))).1) (boxOf (V (Proc.devRef .tc main_arg1)) (V (Proc.devRef .tc main_arg2)) (top (scores (V (Proc.devRef .tc main_v1)))).2) := by
  unfold boxOf
  rw [last_v136, long_v131, long_v128, mid_values, mid_v8, mid_v9, mid_arg1, mid_arg2]

end Cert.Detect

end
-- ==== Proof.GatherAt.lean ====
/- The two gathers read at an index: the kernel's over `[16, 2, 128, 128]` by four coordinates, the reference's over `[16, 16384, 2]` by three. -/
module

public import proofs.«01_k».proof.KernelIdeal
public import proofs.«01_k».proof.ReferenceIdeal
public import proofs.«01_k».proof.Proof.Index

@[expose] public section

set_option maxRecDepth 16384

noncomputable section

namespace Cert.Detect

open Idealize.ShloMosaic Idealize.ShloMosaic.Routing

section Kernel
open Cert.KernelIdeal
variable [Cert.KernelIdeal.Facts]

/-- The kernel's gather at `(b, k)`: where the four index words there hold `p0 < 16`, `p1 < 2`, `p2 < 128` and `p3 < 128`, it is the
    operand at `(p0, p1, p2, p3)`. -/
theorem gather4_at {α : Type} (x : S16x2x128x128.Idx → α) (idx : IVec S16x100x4 32) (b : Fin 16) (k : Fin 100)
    (p0 : Fin 16) (p1 : Fin 2) (p2 p3 : Fin 128)
    (h0 : idx (ix3 b k (0 : Fin 4)) = BitVec.ofNat 32 p0.val) (h1 : idx (ix3 b k (1 : Fin 4)) = BitVec.ofNat 32 p1.val)
    (h2 : idx (ix3 b k (2 : Fin 4)) = BitVec.ofNat 32 p2.val) (h3 : idx (ix3 b k (3 : Fin 4)) = BitVec.ofNat 32 p3.val) :
    Host.gather gather_S16x2x128x128_S16x100x4_S16x100_n_0123_n_n_0123_2_1111 x idx (ix2 b k) = x (ix4 p0 p1 p2 p3) := by
  have hmem : ∀ a : Fin 4, a ∈ ([0, 1, 2, 3] : List (Fin 4)) := by decide
  have hmap : ∀ a, a ∈ GatherDims.startIndexMap gather_S16x2x128x128_S16x100x4_S16x100_n_0123_n_n_0123_2_1111 := hmem
  unfold Host.gather
  congr 1
  funext a
  refine Fin.ext ?_
  show GatherDims.start _ _ idx a + GatherDims.batchCoord _ _ a + GatherDims.offCoord _ _ a = _
  rw [GatherDims.batchCoord_eq_zero _ _ _ List.not_mem_nil,
    GatherDims.offCoord_eq_zero _ _ _ (fun h => ((GatherDims.mem_sKept _ _).mp h).1 (hmem a))]
  simp only [Nat.add_zero]
  unfold GatherDims.start
  have hsi : ∀ c : Fin 4, GatherDims.siIdx gather_S16x2x128x128_S16x100x4_S16x100_n_0123_n_n_0123_2_1111 (ix2 b k) c = ix3 b k c := by
    intro c
    funext e; refine Fin.ext ?_
    match e with
    | ⟨0, _⟩ => rfl
    | ⟨1, _⟩ => rfl
    | ⟨2, _⟩ => rfl
  match a with
  | ⟨0, _⟩ =>
    rw [dif_pos (hmap _)]
    refine (congrArg (fun z => min (idx z).toInt.toNat 15) (hsi 0)).trans ?_
    simp only [h0, toInt_ofNat (show p0.val < 2 ^ 31 by omega)]
    exact Nat.min_eq_left (by omega)
  | ⟨1, _⟩ =>
    rw [dif_pos (hmap _)]
    refine (congrArg (fun z => min (idx z).toInt.toNat 1) (hsi 1)).trans ?_
    simp only [h1, toInt_ofNat (show p1.val < 2 ^ 31 by omega)]
    exact Nat.min_eq_left (by omega)
  | ⟨2, _⟩ =>
    rw [dif_pos (hmap _)]
    refine (congrArg (fun z => min (idx z).toInt.toNat 127) (hsi 2)).trans ?_
    simp only [h2, toInt_ofNat (show p2.val < 2 ^ 31 by omega)]
    exact Nat.min_eq_left (by omega)
  | ⟨3, _⟩ =>
    rw [dif_pos (hmap _)]
    refine (congrArg (fun z => min (idx z).toInt.toNat 127) (hsi 3)).trans ?_
    simp only [h3, toInt_ofNat (show p3.val < 2 ^ 31 by omega)]
    exact Nat.min_eq_left (by omega)

end Kernel

section Reference
open Cert.ReferenceIdeal
variable [Cert.ReferenceIdeal.Facts]

/-- The reference's gather at `q`: where the three index words there hold `p0 < 16`, `p1 < 16384` and `p2 < 2`, it is the operand at
    `(p0, p1, p2)`. -/
theorem gather3_at {α : Type} (x : S16x16384x2.Idx → α) (idx : IVec S1600x3 32) (q : Fin 1600)
    (p0 : Fin 16) (p1 : Fin 16384) (p2 : Fin 2)
    (h0 : idx (ix2 q (0 : Fin 3)) = BitVec.ofNat 32 p0.val) (h1 : idx (ix2 q (1 : Fin 3)) = BitVec.ofNat 32 p1.val)
    (h2 : idx (ix2 q (2 : Fin 3)) = BitVec.ofNat 32 p2.val) :
    Host.gather gather_S16x16384x2_S1600x3_S1600_n_012_n_n_012_1_111 x idx (ix1 q) = x (ix3 p0 p1 p2) := by
  have hmem : ∀ a : Fin 3, a ∈ ([0, 1, 2] : List (Fin 3)) := by decide
  have hmap : ∀ a, a ∈ GatherDims.startIndexMap gather_S16x16384x2_S1600x3_S1600_n_012_n_n_012_1_111 := hmem
  unfold Host.gather
  congr 1
  funext a
  refine Fin.ext ?_
  show GatherDims.start _ _ idx a + GatherDims.batchCoord _ _ a + GatherDims.offCoord _ _ a = _
  rw [GatherDims.batchCoord_eq_zero _ _ _ List.not_mem_nil,
    GatherDims.offCoord_eq_zero _ _ _ (fun h => ((GatherDims.mem_sKept _ _).mp h).1 (hmem a))]
  simp only [Nat.add_zero]
  unfold GatherDims.start
  have hsi : ∀ c : Fin 3, GatherDims.siIdx gather_S16x16384x2_S1600x3_S1600_n_012_n_n_012_1_111 (ix1 q) c = ix2 q c := by
    intro c
    funext e; refine Fin.ext ?_
    match e with
    | ⟨0, _⟩ => rfl
    | ⟨1, _⟩ => rfl
  match a with
  | ⟨0, _⟩ =>
    rw [dif_pos (hmap _)]
    refine (congrArg (fun z => min (idx z).toInt.toNat 15) (hsi 0)).trans ?_
    simp only [h0, toInt_ofNat (show p0.val < 2 ^ 31 by omega)]
    exact Nat.min_eq_left (by omega)
  | ⟨1, _⟩ =>
    rw [dif_pos (hmap _)]
    refine (congrArg (fun z => min (idx z).toInt.toNat 16383) (hsi 1)).trans ?_
    simp only [h1, toInt_ofNat (show p1.val < 2 ^ 31 by omega)]
    exact Nat.min_eq_left (by omega)
  | ⟨2, _⟩ =>
    rw [dif_pos (hmap _)]
    refine (congrArg (fun z => min (idx z).toInt.toNat 1) (hsi 2)).trans ?_
    simp only [h2, toInt_ofNat (show p2.val < 2 ^ 31 by omega)]
    exact Nat.min_eq_left (by omega)

end Reference

end Cert.Detect

end
-- ==== Proof.Picks.lean ====
/- What the kernel's gathers read: at position `n` of image `b`, the map's entry at row `n % 16384 / 128` and column `n % 16384 % 128`. -/
module

public import proofs.«01_k».proof.Proof.Tail
public import proofs.«01_k».proof.Proof.GatherAt

@[expose] public section

set_option maxRecDepth 16384

noncomputable section

namespace Cert.Detect

open Idealize.ShloMosaic Routing
open Cert.KernelIdeal Cert.KernelIdeal.Gen

/-- The row a position names. -/
def rowNat (n : Nat) : Fin 128 := ⟨n % 16384 / 128, by omega⟩

/-- The column a position names. -/
def colNat (n : Nat) : Fin 128 := ⟨n % 16384 % 128, by omega⟩

/-- The row of a position word. -/
theorem rowOf_at (p : IVec S16x100 32) (j : S16x100.Idx) {n : Nat} (hp : p j = BitVec.ofNat 32 n) (hn : n < 1310720) :
    rowOf p j = BitVec.ofNat 32 (rowNat n).val :=
  div128 bcast_S_S16x100 (cellOf p) j (rem16384 bcast_S_S16x100 p j hp (by omega)) (by omega)

/-- The column of a position word. -/
theorem colOf_at (p : IVec S16x100 32) (j : S16x100.Idx) {n : Nat} (hp : p j = BitVec.ofNat 32 n) (hn : n < 1310720) :
    colOf p j = BitVec.ofNat 32 (colNat n).val :=
  rem128 bcast_S_S16x100 (cellOf p) j (rem16384 bcast_S_S16x100 p j hp (by omega)) (by omega)

/-- Entry `b` of the column of image numbers is `b`. -/
theorem imageCol_at (b : Fin 16) : imageCol (ix2 b 0) = BitVec.ofNat 32 b.val := by
  unfold imageCol
  pointwise []

/-- The four components of a gather's index. -/
theorem pickIdx_at (c : IVec S16x1 32) (ch : BitVec 32) (ys xs : IVec S16x100 32) (b : Fin 16) (k : Fin 100) :
    pickIdx c ch ys xs (ix3 b k 0) = wrap bcast_S_S16x1 16#32 c (ix2 b 0)
    ∧ pickIdx c ch ys xs (ix3 b k 1) = ch
    ∧ pickIdx c ch ys xs (ix3 b k 2) = wrap bcast_S_S16x100 128#32 ys (ix2 b k)
    ∧ pickIdx c ch ys xs (ix3 b k 3) = wrap bcast_S_S16x100 128#32 xs (ix2 b k) := by
  unfold pickIdx
  generalize wrap bcast_S_S16x1 16#32 c = w0
  generalize wrap bcast_S_S16x100 128#32 ys = w1
  generalize wrap bcast_S_S16x100 128#32 xs = w2
  refine ⟨?_, ?_, ?_, ?_⟩
  · pointwise []
  · pointwise []
  · pointwise []
  · pointwise []

/-- A gather at position `n` of image `b` reads the map's entry there. -/
theorem pick_at (x : FVec Ideal S16x2x128x128 .f32) (ch : Fin 2) (p : IVec S16x100 32) (b : Fin 16) (k : Fin 100) {n : Nat}
    (hp : p (ix2 b k) = BitVec.ofNat 32 n) (hn : n < 1310720) :
    pick x imageCol (BitVec.ofNat 32 ch.val) (rowOf p) (colOf p) (ix2 b k) = x (ix4 b ch (rowNat n) (colNat n)) := by
  obtain ⟨h0, h1, h2, h3⟩ := pickIdx_at imageCol (BitVec.ofNat 32 ch.val) (rowOf p) (colOf p) b k
  exact gather4_at x _ b k b ch (rowNat n) (colNat n)
    (h0.trans (wrap_ap _ _ _ _ (imageCol_at b) (by omega))) h1
    (h2.trans (wrap_ap _ _ _ _ (rowOf_at p _ hp hn) (by omega)))
    (h3.trans (wrap_ap _ _ _ _ (colOf_at p _ hp hn) (by omega)))

end Cert.Detect

end
-- ==== Proof.RefPicks.lean ====
/- What the reference's gathers read: the same entry of the map, its channels moved last and its plane laid out in one row. -/
module

public import proofs.«01_k».proof.Proof.Index
public import proofs.«01_k».proof.Proof.GatherAt
public import proofs.«01_k».proof.Proof.Gen.ReferenceIdeal

@[expose] public section

set_option maxRecDepth 16384

noncomputable section

namespace Cert.Detect

open Idealize.ShloMosaic Routing
open Cert.ReferenceIdeal Cert.ReferenceIdeal.Gen

/-- The reference's array of image numbers. -/
def refImage : IVec S16x100 32 :=
  shapeCast S16x100 (broadcastInDim S16x1x100 ![0, 1] bcast_S16x1_S16x1x100_0_1 (broadcastInDim S16x1 ![0] bcast_S16_S16x1_0 (iotaInDim S16 32 0))) shapeCasts_S16x1x100_S16x100

/-- Three rows of 1600 numbers: the image, the cell and the channel of every entry to read. -/
def refTable (i c : IVec S16x100 32) (ch : BitVec 32) : IVec S3x1600 32 :=
  shapeCast S3x1600 (concatenate S48x100 0 [⟨S16x100, i⟩, ⟨S16x100, c⟩, ⟨S16x100, broadcastInDim S16x100 ![] bcast_S_S16x100 (constantI S_ 32 ch)⟩]
    concatenates_S16x100_S16x100_S16x100_S48x100_d0) shapeCasts_S48x100_S3x1600

/-- The table's first row. -/
def refRow0 (t : IVec S3x1600 32) : IVec S1600 32 :=
  shapeCast S1600 (extractStridedSlice S1x1600 ![0, 0] t slices_S3x1600_S1x1600_0_0) shapeCasts_S1x1600_S1600

/-- The table's second row. -/
def refRow1 (t : IVec S3x1600 32) : IVec S1600 32 :=
  shapeCast S1600 (extractStridedSlice S1x1600 ![1, 0] t slices_S3x1600_S1x1600_1_0) shapeCasts_S1x1600_S1600

/-- The table's third row. -/
def refRow2 (t : IVec S3x1600 32) : IVec S1600 32 :=
  shapeCast S1600 (extractStridedSlice S1x1600 ![2, 0] t slices_S3x1600_S1x1600_2_0) shapeCasts_S1x1600_S1600

/-- The three-component index of the reference's gather, each component wrapped into its axis. -/
def refIdx (r0 r1 r2 : IVec S1600 32) : IVec S1600x3 32 :=
  concatenate S1600x3 1 [
    ⟨S1600x1, broadcastInDim S1600x1 ![0] bcast_S1600_S1600x1_0 (wrap bcast_S_S1600 16#32 r0)⟩,
    ⟨S1600x1, broadcastInDim S1600x1 ![0] bcast_S1600_S1600x1_0 (wrap bcast_S_S1600 16384#32 r1)⟩,
    ⟨S1600x1, broadcastInDim S1600x1 ![0] bcast_S1600_S1600x1_0 (wrap bcast_S_S1600 2#32 r2)⟩]
    concatenates_S1600x1_S1600x1_S1600x1_S1600x3_d1

/-- A map with its channels last and each plane in one row. -/
def refMap (x : FVec Ideal S16x2x128x128 .f32) : FVec Ideal S16x16384x2 .f32 :=
  shapeCast S16x16384x2 (transpose S16x128x128x2 [0, 2, 3, 1] x transposes_S16x2x128x128_S16x128x128x2_0_2_3_1) shapeCasts_S16x128x128x2_S16x16384x2

/-- The reference's reading of the map `x` at the cells `c`, channel `ch`. -/
def refPick (x : FVec Ideal S16x2x128x128 .f32) (c : IVec S16x100 32) (ch : BitVec 32) : FVec Ideal S16x100 .f32 :=
  shapeCast S16x100 (Host.gather gather_S16x16384x2_S1600x3_S1600_n_012_n_n_012_1_111 (refMap x)
    (refIdx (refRow0 (refTable refImage c ch)) (refRow1 (refTable refImage c ch)) (refRow2 (refTable refImage c ch)))) shapeCasts_S1600_S16x100

/-- Entry `(b, k)` of a 16×100 array, in one row of 1600. -/
def entry (b : Fin 16) (k : Fin 100) : Fin 1600 := ⟨b.val * 100 + k.val, by omega⟩

/-- The image numbers. -/
theorem refImage_at (b : Fin 16) (k : Fin 100) : refImage (ix2 b k) = BitVec.ofNat 32 b.val := by
  unfold refImage
  pointwise []

/-- The first row holds the image. -/
theorem refRow0_at (i c : IVec S16x100 32) (ch : BitVec 32) (b : Fin 16) (k : Fin 100) :
    refRow0 (refTable i c ch) (ix1 (entry b k)) = i (ix2 b k) := by
  unfold refRow0 refTable entry
  pointwise []
  have e : (b.val * 100 + k.val) / 100 = b.val := by omega
  rw [dif_pos (by omega)]
  exact congrArg i (congrArg (fun b => ix2 b k) (Fin.ext e))

/-- The second row holds the cell. -/
theorem refRow1_at (i c : IVec S16x100 32) (ch : BitVec 32) (b : Fin 16) (k : Fin 100) :
    refRow1 (refTable i c ch) (ix1 (entry b k)) = c (ix2 b k) := by
  unfold refRow1 refTable entry
  pointwise []
  have e : (b.val * 100 + k.val) / 100 = b.val := by omega
  rw [dif_pos (by omega)]
  exact congrArg c (congrArg (fun b => ix2 b k) (Fin.ext e))

/-- The third row holds the channel. -/
theorem refRow2_at (i c : IVec S16x100 32) (ch : BitVec 32) (b : Fin 16) (k : Fin 100) :
    refRow2 (refTable i c ch) (ix1 (entry b k)) = ch := by
  unfold refRow2 refTable entry
  pointwise []
  rw [dif_neg (by omega), dif_neg (by omega)]

/-- The three components of the gather's index. -/
theorem refIdx_at (r0 r1 r2 : IVec S1600 32) (q : Fin 1600) :
    refIdx r0 r1 r2 (ix2 q 0) = wrap bcast_S_S1600 16#32 r0 (ix1 q)
    ∧ refIdx r0 r1 r2 (ix2 q 1) = wrap bcast_S_S1600 16384#32 r1 (ix1 q)
    ∧ refIdx r0 r1 r2 (ix2 q 2) = wrap bcast_S_S1600 2#32 r2 (ix1 q) := by
  unfold refIdx
  generalize wrap bcast_S_S1600 16#32 r0 = w0
  generalize wrap bcast_S_S1600 16384#32 r1 = w1
  generalize wrap bcast_S_S1600 2#32 r2 = w2
  refine ⟨?_, ?_, ?_⟩
  · pointwise []
  · pointwise []
  · pointwise []

/-- The map with its channels last, at cell `n`: the map at row `n / 128` and column `n % 128`. -/
theorem refMap_at (x : FVec Ideal S16x2x128x128 .f32) (b : Fin 16) (n : Fin 16384) (ch : Fin 2) :
    refMap x (ix3 b n ch) = x (ix4 b ch ⟨n.val / 128, by omega⟩ ⟨n.val % 128, by omega⟩) := by
  unfold refMap
  pointwise []

/-- The gathered row read as a 16×100 array. -/
theorem unrow_at (y : FVec Ideal S1600 .f32) (b : Fin 16) (k : Fin 100) :
    shapeCast S16x100 y shapeCasts_S1600_S16x100 (ix2 b k) = y (ix1 (entry b k)) := by
  unfold entry
  pointwise []

/-- The reference's reading at cell `n` of image `b`. -/
theorem refPick_at (x : FVec Ideal S16x2x128x128 .f32) (ch : Fin 2) (c : IVec S16x100 32) (b : Fin 16) (k : Fin 100) (n : Fin 16384)
    (hc : c (ix2 b k) = BitVec.ofNat 32 n.val) :
    refPick x c (BitVec.ofNat 32 ch.val) (ix2 b k) = x (ix4 b ch ⟨n.val / 128, by omega⟩ ⟨n.val % 128, by omega⟩) := by
  obtain ⟨h0, h1, h2⟩ := refIdx_at (refRow0 (refTable refImage c (BitVec.ofNat 32 ch.val))) (refRow1 (refTable refImage c (BitVec.ofNat 32 ch.val)))
    (refRow2 (refTable refImage c (BitVec.ofNat 32 ch.val))) (entry b k)
  exact ((unrow_at _ b k).trans (gather3_at (refMap x) _ (entry b k) b n ch
    (h0.trans (wrap_ap _ _ _ _ ((refRow0_at _ _ _ b k).trans (refImage_at b k)) (by omega)))
    (h1.trans (wrap_ap _ _ _ _ ((refRow1_at _ _ _ b k).trans hc) (by omega)))
    (h2.trans (wrap_ap _ _ _ _ (refRow2_at _ _ _ b k) (by omega))))).trans (refMap_at x b n ch)

end Cert.Detect

end
-- ==== Proof.Peak.lean ====
/- A cell kept when it is the greatest of its 3×3 neighbourhood, else 0: the kernel's block and the reference's window maximum are both this. -/
module

public import proofs.«01_k».proof.Proof.Gen.KernelIdeal.Skeleton
public import proofs.«01_k».proof.ReferenceIdeal
public import Idealize.ShloMosaic.Lib.Pointwise

@[expose] public section

set_option maxRecDepth 16384

noncomputable section

namespace Cert.Detect

open Idealize.ShloMosaic

/-- The plane `f` with a border of −∞ one cell wide around it: cell `(i, j)` of the bordered plane is `f (i − 1) (j − 1)`. -/
def bordered (f : Fin 128 → Fin 128 → EReal) (i j : Nat) : EReal :=
  if h : (1 ≤ i ∧ i ≤ 128) ∧ (1 ≤ j ∧ j ≤ 128) then f ⟨i - 1, by omega⟩ ⟨j - 1, by omega⟩ else ⊥

/-- The greatest of three cells of column `j` of the bordered plane: those above, below and beside row `r` of the plane. -/
def columnMax (f : Fin 128 → Fin 128 → EReal) (r j : Nat) : EReal :=
  max (max (bordered f r j) (bordered f (r + 2) j)) (bordered f (r + 1) j)

/-- The greatest cell of the 3×3 neighbourhood of `(r, c)`, cells outside the plane counted −∞. -/
def nearMax (f : Fin 128 → Fin 128 → EReal) (r c : Nat) : EReal :=
  max (max (columnMax f r c) (columnMax f r (c + 2))) (columnMax f r (c + 1))

/-- Cell `(r, c)` of the plane where it equals the greatest of its neighbourhood, else the zero `z`. -/
def peak (z : EReal) (f : Fin 128 → Fin 128 → EReal) (r c : Fin 128) : EReal :=
  Scalar.select (Ideal.cmp .oeq (nearMax f r.val c.val) (f r c)) (f r c) z

/-- Inside the border, the bordered plane is the plane. -/
theorem bordered_in (f : Fin 128 → Fin 128 → EReal) (r c : Fin 128) : bordered f (r.val + 1) (c.val + 1) = f r c := by
  unfold bordered
  rw [dif_pos (by omega)]
  rfl

/-- The cell above `(r, c)`: −∞ in the first row. -/
theorem bordered_up (f : Fin 128 → Fin 128 → EReal) (r c : Fin 128) :
    bordered f r.val (c.val + 1) = if h : r.val < 1 then ⊥ else f ⟨r.val - 1, by omega⟩ c := by
  unfold bordered
  by_cases h : r.val < 1
  · rw [dif_pos h, dif_neg (by omega)]
  · rw [dif_neg h, dif_pos (by omega)]
    rfl

/-- The cell below `(r, c)`: −∞ in the last row. -/
theorem bordered_down (f : Fin 128 → Fin 128 → EReal) (r c : Fin 128) :
    bordered f (r.val + 2) (c.val + 1) = if h : r.val < 127 then f ⟨1 + r.val, by omega⟩ c else ⊥ := by
  unfold bordered
  by_cases h : r.val < 127
  · rw [dif_pos h, dif_pos (by omega)]
    congr 1
    exact Fin.ext (by simp only []; omega)
  · rw [dif_neg h, dif_neg (by omega)]

/-- The greatest of the three cells of column `c` around row `r`, those outside the plane left out. -/
def near3 (f : Fin 128 → Fin 128 → EReal) (r c : Fin 128) : EReal :=
  max (max (if h : r.val < 1 then ⊥ else f ⟨r.val - 1, by omega⟩ c) (if h : r.val < 127 then f ⟨1 + r.val, by omega⟩ c else ⊥)) (f r c)

/-- It is the bordered plane's three cells. -/
theorem columnMax_in (f : Fin 128 → Fin 128 → EReal) (r c : Fin 128) : columnMax f r.val (c.val + 1) = near3 f r c := by
  unfold columnMax near3
  rw [bordered_up, bordered_down, bordered_in]

/-- A column of the border holds −∞ alone. -/
theorem columnMax_out (f : Fin 128 → Fin 128 → EReal) (r j : Nat) (hj : ¬ (1 ≤ j ∧ j ≤ 128)) : columnMax f r j = ⊥ := by
  unfold columnMax bordered
  rw [dif_neg (by omega), dif_neg (by omega), dif_neg (by omega)]
  simp

/-- The neighbourhood's greatest, column by column: the column before, the one after, and `c`'s own. -/
theorem nearMax_eq (f : Fin 128 → Fin 128 → EReal) (r c : Fin 128) : nearMax f r.val c.val
    = max (max (if h : c.val < 1 then ⊥ else near3 f r ⟨c.val - 1, by omega⟩) (if h : c.val < 127 then near3 f r ⟨1 + c.val, by omega⟩ else ⊥))
        (near3 f r c) := by
  unfold nearMax
  rw [columnMax_in]
  congr 2
  · by_cases h : c.val < 1
    · rw [dif_pos h, columnMax_out _ _ _ (by omega)]
    · rw [dif_neg h, ← columnMax_in]
      congr 1
      show c.val = c.val - 1 + 1
      omega
  · by_cases h : c.val < 127
    · rw [dif_pos h, ← columnMax_in]
      congr 1
      show c.val + 2 = 1 + c.val + 1
      omega
    · rw [dif_neg h, columnMax_out _ _ _ (by omega)]

/-- The word of −∞ denotes the extended reals' least element. -/
theorem negInf : Ideal.ofBits .f32 0xFF800000#32 = ⊥ := by
  rfl

section Kernel
open Cert.KernelIdeal Cert.KernelIdeal.Gen

/-- The kernel's block at `(p, r, c)` is the peak filter of its plane `p` at `(r, c)`. -/
theorem block_at (v : Vec Ideal S80x128x128 .f32) (p : Fin 80) (r c : Fin 128) :
    k0_pay1 v (ix3 p r c) = peak (Ideal.ofBits .f32 0#32) (fun r c => v (ix3 p r c)) r c := by
  unfold peak
  rw [nearMax_eq]
  simp only [near3]
  pointwise [k0_pay1, negInf]

end Kernel

section Reference
open Cert.ReferenceIdeal

/-- The 3×3 window. -/
abbrev win : Shape := ⟨4, ![1, 1, 3, 3]⟩

/-- The window's positions number nine. -/
theorem win_numel : win.numel = 9 := by rfl

/-- Position `n` of the window is row `n / 3`, column `n % 3`. -/
theorem win_pos (n : Fin win.numel) :
    win.rowMajor.symm n = ix4 (0 : Fin 1) (0 : Fin 1) (⟨n.val / 3, by have := lt_of_lt_of_eq n.isLt win_numel; omega⟩ : Fin 3)
      (⟨n.val % 3, by omega⟩ : Fin 3) := by
  rw [Equiv.symm_apply_eq]
  refine Fin.ext ?_
  rw [Shape.rowMajor_val_four]
  show n.val = ((0 * 1 + 0) * 3 + n.val / 3) * 3 + n.val % 3
  omega

/-- The window's operand element at position `n` around `(r, c)` is the bordered plane's cell. -/
theorem win_elem (x : FVec Ideal S16x80x128x128 .f32) (b : Fin 16) (k : Fin 80) (r c : Fin 128) (n : Fin win.numel) (p : Fin 4 → Nat)
    (hp0 : p 0 = b.val) (hp1 : p 1 = k.val) (hp2 : p 2 = r.val + n.val / 3) (hp3 : p 3 = c.val + n.val % 3) :
    (if hin : ∀ a : Fin 4, (![0, 0, 1, 1] : Fin 4 → Nat) a ≤ p a ∧ p a - (![0, 0, 1, 1] : Fin 4 → Nat) a < S16x80x128x128.size a then
        x (fun a => ⟨p a - (![0, 0, 1, 1] : Fin 4 → Nat) a, (hin a).2⟩) else (⊥ : EReal))
      = bordered (fun r c => x (ix4 b k r c)) (r.val + n.val / 3) (c.val + n.val % 3) := by
  unfold bordered
  by_cases h : (1 ≤ r.val + n.val / 3 ∧ r.val + n.val / 3 ≤ 128) ∧ (1 ≤ c.val + n.val % 3 ∧ c.val + n.val % 3 ≤ 128)
  · have hin : ∀ a : Fin 4, (![0, 0, 1, 1] : Fin 4 → Nat) a ≤ p a ∧ p a - (![0, 0, 1, 1] : Fin 4 → Nat) a < S16x80x128x128.size a := by
      intro a
      match a with
      | ⟨0, _⟩ => show 0 ≤ p 0 ∧ p 0 - 0 < 16; omega
      | ⟨1, _⟩ => show 0 ≤ p 1 ∧ p 1 - 0 < 80; omega
      | ⟨2, _⟩ => show 1 ≤ p 2 ∧ p 2 - 1 < 128; omega
      | ⟨3, _⟩ => show 1 ≤ p 3 ∧ p 3 - 1 < 128; omega
    rw [dif_pos hin, dif_pos h]
    refine congrArg x (funext fun a => Fin.ext ?_)
    match a with
    | ⟨0, _⟩ => exact hp0
    | ⟨1, _⟩ => exact hp1
    | ⟨2, _⟩ => show p 2 - 1 = r.val + n.val / 3 - 1; omega
    | ⟨3, _⟩ => show p 3 - 1 = c.val + n.val % 3 - 1; omega
  · rw [dif_neg h, dif_neg]
    intro hin
    have h2 := hin 2
    have h3 := hin 3
    change 1 ≤ p 2 ∧ p 2 - 1 < 128 at h2
    change 1 ≤ p 3 ∧ p 3 - 1 < 128 at h3
    omega

/-- The 3×3 window maximum with a border of −∞, at `(b, k, r, c)`, is the greatest of the neighbourhood in plane `(b, k)`. -/
theorem window_at (x : FVec Ideal S16x80x128x128 .f32) (init : FVec Ideal S_ .f32) (h) (hu) (hinit : ∀ i, init i = (⊥ : EReal))
    (b : Fin 16) (k : Fin 80) (r c : Fin 128) :
    Host.reduceWindow FloatOps.maximumf ![1, 1, 3, 3] ![1, 1, 1, 1] ![0, 0, 1, 1] ![0, 0, 1, 1] x init h hu (ix4 b k r c : S16x80x128x128.Idx)
      = nearMax (fun r c => x (ix4 b k r c)) r.val c.val := by
  unfold Host.reduceWindow
  simp only [hinit]
  refine (List.foldl_ext _ (fun (z : EReal) (n : Fin win.numel) => max z (bordered (fun r c => x (ix4 b k r c)) (r.val + n.val / 3) (c.val + n.val % 3))) _
    (fun z n _ => congrArg (max z) ?_)).trans ?_
  · refine win_elem x b k r c n _ ?_ ?_ ?_ ?_
    · show b.val * 1 + (win.rowMajor.symm n 0).val = b.val
      rw [win_pos]; show b.val * 1 + 0 = b.val; omega
    · show k.val * 1 + (win.rowMajor.symm n 1).val = k.val
      rw [win_pos]; show k.val * 1 + 0 = k.val; omega
    · show r.val * 1 + (win.rowMajor.symm n 2).val = r.val + n.val / 3
      rw [win_pos]; show r.val * 1 + n.val / 3 = _; omega
    · show c.val * 1 + (win.rowMajor.symm n 3).val = c.val + n.val % 3
      rw [win_pos]; show c.val * 1 + n.val % 3 = _; omega
  · unfold nearMax columnMax
    generalize bordered (fun r c => x (ix4 b k r c)) = g
    show List.foldl (fun (z : EReal) (n : Fin 9) => max z (g (r.val + n.val / 3) (c.val + n.val % 3))) ⊥ (List.finRange 9) = _
    rw [show List.finRange 9 = [0, 1, 2, 3, 4, 5, 6, 7, 8] from rfl]
    show max (max (max (max (max (max (max (max (max ⊥ (g r.val c.val)) (g r.val (c.val + 1))) (g r.val (c.val + 2)))
      (g (r.val + 1) c.val)) (g (r.val + 1) (c.val + 1))) (g (r.val + 1) (c.val + 2)))
      (g (r.val + 2) c.val)) (g (r.val + 2) (c.val + 1))) (g (r.val + 2) (c.val + 2)) = _
    rw [max_eq_right (bot_le : (⊥ : EReal) ≤ g r.val c.val)]
    ac_rfl

end Reference

end Cert.Detect

end
-- ==== Proof.Region.lean ====
/- The pipelined region: its output array is the peak filter of its input array, plane by plane. -/
module

public import proofs.«01_k».proof.Proof.Gen.KernelIdeal
public import proofs.«01_k».proof.Proof.Gen.KernelIdeal.Frame
public import proofs.«01_k».proof.Proof.Peak
public import Idealize.ShloMosaic.Lib.Pipeline.ValueKit

@[expose] public section

set_option maxRecDepth 16384

noncomputable section

namespace Cert.Detect

open Idealize.ShloMosaic Idealize.ShloMosaic.TcCoe Idealize.SL.Sem
open Cert.KernelIdeal Cert.KernelIdeal.Gen

variable (m : (ℓ : Loc nD τ sig) → Buf (Elt Ideal) ℓ)

/-- The peak filter of every plane of a `[1280, 128, 128]` array. -/
def planes (x : Vec Ideal S1280x128x128 .f32) : Vec Ideal S1280x128x128 .f32 :=
  fun i => peak (Ideal.ofBits .f32 0#32) (fun r c => x (ix3 (i 0) r c)) (i 1) (i 2)

/-- Grid point `t` reads and writes block `t` of the planes. -/
theorem idx : ∀ t : Fin cfg0.N, win0_0.index t = ![(grid0.coords t 0).val, 0, 0] ∧ win0_1.index t = ![(grid0.coords t 0).val, 0, 0] :=
  (by decide +kernel : ∀ t : Fin grid0.N, _)

/-- What the body leaves at index `y` of block `t` is the peak filter at the array index `y` sits at. -/
theorem point (c : Dev nD) (t : Fin cfg0.N) (y : S80x128x128.Idx) :
    k0_pay1 (iblk m c 0 t) y = planes (V m c main_v0) (((cfg0.win 1).blk t).view.emb y) := by
  obtain ⟨p, r, q, rfl⟩ : ∃ (p : Fin 80) (r q : Fin 128), y = ix3 p r q := ⟨y 0, y 1, y 2, eq_ix3 y⟩
  refine (block_at _ p r q).trans ?_
  unfold planes
  have h1 : (((cfg0.win 1).blk t).view.emb (ix3 p r q)) 1 = r := by
    apply Fin.ext
    blk_simp [(idx t).2]
  have h2 : (((cfg0.win 1).blk t).view.emb (ix3 p r q)) 2 = q := by
    apply Fin.ext
    blk_simp [(idx t).2]
  refine congr (congr (congrArg (peak _) (funext fun a => funext fun b => ?_)) h1.symm) h2.symm
  blk_ext [iblk, idx t]

/-- After the region its output array is the peak filter of the array it read. -/
theorem final (c : Dev nD) : (dats m 0 c).arrAt 1 (cfgs 0).N = planes (V m c main_v0) := by
  refine (dats m 0 c).arrAt_eq_of_covers 1 _ (by decide +kernel) fun t _ y => ?_
  blk_simp
  rw [after0_1]
  frame_out
  exact point m c t y

end Cert.Detect

end
-- ==== Proof.Scores.lean ====
/- The array the top-k reads: the kernel's reshaped region output and the reference's filtered heat map are the same. -/
module

public import proofs.«01_k».proof.Proof.Region

@[expose] public section

set_option maxRecDepth 16384

noncomputable section

namespace Cert.Detect

open Idealize.ShloMosaic
open Cert.ReferenceIdeal

/-- The reference's filter of the heat map `a`: a cell where it equals its 3×3 window's maximum, else 0. -/
def filtered (a : FVec Ideal S16x80x128x128 .f32) (h : S_.BroadcastsInDim S_ ![])
    (hw : S16x80x128x128.ReduceWindows (![1, 1, 3, 3] : Fin 4 → Nat) ![1, 1, 1, 1] ![0, 0, 1, 1] ![0, 0, 1, 1] S16x80x128x128)
    (hu : 0 < S_.numel) (hb : S_.BroadcastsInDim S16x80x128x128 ![]) : FVec Ideal S16x80x128x128 .f32 :=
  select (cmpf .oeq (Host.reduceWindow FloatOps.maximumf ![1, 1, 3, 3] ![1, 1, 1, 1] ![0, 0, 1, 1] ![0, 0, 1, 1] a
    (broadcastInDim S_ ![] h (constant S_ .f32 0xFF800000#32)) hw hu) a) a (broadcastInDim S16x80x128x128 ![] hb (id (constant S_ .f32 0x00000000#32)))

/-- The filter at `(b, k, r, c)` is the peak filter of plane `(b, k)` at `(r, c)`. -/
theorem filtered_at (a : FVec Ideal S16x80x128x128 .f32) (h) (hw) (hu) (hb) (b : Fin 16) (k : Fin 80) (r c : Fin 128) :
    filtered a h hw hu hb (ix4 b k r c) = peak (Ideal.ofBits .f32 0#32) (fun r c => a (ix4 b k r c)) r c := by
  have e := window_at a (broadcastInDim S_ ![] h (constant S_ .f32 0xFF800000#32)) hw hu (fun _ => negInf) b k r c
  exact congrArg (fun z => Scalar.select (Ideal.cmp .oeq z (a (ix4 b k r c))) (a (ix4 b k r c)) (Ideal.ofBits .f32 0#32)) e

/-- Plane `80 b + k` of the merged array is plane `(b, k)`. -/
def plane (b : Fin 16) (k : Fin 80) : Fin 1280 :=
  ⟨b.val * 80 + k.val, by omega⟩

/-- Batch and class merged into one axis: the array at plane `80 b + k`. -/
theorem merged_at (a : FVec Ideal S16x80x128x128 .f32) (h1 : S16x80x128x128.ShapeCasts Cert.KernelIdeal.S1280x128x128)
    (b : Fin 16) (k : Fin 80) (r c : Fin 128) :
    shapeCast Cert.KernelIdeal.S1280x128x128 a h1 (ix3 (plane b k) r c) = a (ix4 b k r c) := by
  unfold plane
  pointwise []

/-- The merged axis parted again: the array at `(b, k)` is plane `80 b + k`. -/
theorem parted_at (x : FVec Ideal Cert.KernelIdeal.S1280x128x128 .f32) (h2 : Cert.KernelIdeal.S1280x128x128.ShapeCasts S16x80x128x128)
    (b : Fin 16) (k : Fin 80) (r c : Fin 128) :
    shapeCast S16x80x128x128 x h2 (ix4 b k r c) = x (ix3 (plane b k) r c) := by
  unfold plane
  pointwise []

/-- The planes filtered one by one, the batch and the class merged before and parted after, are the reference's filter. -/
theorem planes_eq (a : FVec Ideal S16x80x128x128 .f32) (h) (hw) (hu) (hb)
    (h1 : S16x80x128x128.ShapeCasts Cert.KernelIdeal.S1280x128x128) (h2 : Cert.KernelIdeal.S1280x128x128.ShapeCasts S16x80x128x128) :
    shapeCast S16x80x128x128 (planes (shapeCast Cert.KernelIdeal.S1280x128x128 a h1)) h2 = filtered a h hw hu hb := by
  funext j
  obtain ⟨b, k, r, c, rfl⟩ : ∃ (b : Fin 16) (k : Fin 80) (r c : Fin 128), j = ix4 b k r c := ⟨j 0, j 1, j 2, j 3, eq_ix4 j⟩
  refine (parted_at _ h2 b k r c).trans (Eq.trans ?_ (filtered_at a h hw hu hb b k r c).symm)
  exact congrArg (fun f => peak (Ideal.ofBits .f32 0#32) f r c) (funext fun x => funext fun y => merged_at a h1 b k x y)

end Cert.Detect

end
-- ==== Proof.Results.lean ====
/- The equation: the reference's three results are the kernel's, over any heat map, offset map and size map. -/
module

public import proofs.«01_k».proof.Proof.Picks
public import proofs.«01_k».proof.Proof.RefPicks
public import proofs.«01_k».proof.Proof.Scores
public import proofs.«01_k».proof.Proof.Gen.ReferenceIdeal.Run

@[expose] public section

set_option maxRecDepth 16384

noncomputable section

namespace Cert.Detect

open Idealize.ShloMosaic Routing
open Cert.ReferenceIdeal Cert.ReferenceIdeal.Gen

/-- The scores of a heat map: every plane filtered, every image's cells in one row. -/
def heatScores (a : FVec Ideal S16x80x128x128 .f32) : FVec Ideal S16x1310720 .f32 :=
  scores (planes (shapeCast Cert.KernelIdeal.S1280x128x128 a Cert.KernelIdeal.Gen.shapeCasts_S16x80x128x128_S1280x128x128))

/-- The first result: the classes of the hundred greatest scores, minus one where the score does not pass. -/
def classes (a : FVec Ideal S16x80x128x128 .f32) : FVec Ideal S16x100x1 .f32 :=
  select (passes (top (heatScores a)).1) (classOf (top (heatScores a)).2) minusOne

/-- The second result: the hundred greatest scores, minus one where the score does not pass. -/
def kept (a : FVec Ideal S16x80x128x128 .f32) : FVec Ideal S16x100x1 .f32 :=
  select (passes (top (heatScores a)).1) (scoreOf (top (heatScores a)).1) minusOne

/-- The third result: the boxes of the hundred greatest scores, minus four where the score does not pass. -/
def boxes (a : FVec Ideal S16x80x128x128 .f32) (off size : FVec Ideal S16x2x128x128 .f32) : FVec Ideal S16x100x4 .f32 :=
  masked (passes (top (heatScores a)).1) (boxOf off size (top (heatScores a)).2)

/-- The positions a top-k reports are below the number of cells of an image. -/
theorem top_position (s : FVec Ideal S16x1310720 .f32) (j : S16x100.Idx) : ∃ n, n < 1310720 ∧ (top s).2 j = BitVec.ofNat 32 n := by
  unfold top
  exact topK_position 1 (by decide) (FloatOps.cmpfTotal .gt) s _ j

/-- The reference's reading at the cells of positions is the kernel's. -/
theorem refPick_eq (x : FVec Ideal S16x2x128x128 .f32) (ch : Fin 2) (p : IVec S16x100 32)
    (hp : ∀ j, ∃ n, n < 1310720 ∧ p j = BitVec.ofNat 32 n) :
    refPick x (cellOf p) (BitVec.ofNat 32 ch.val) = pick x imageCol (BitVec.ofNat 32 ch.val) (rowOf p) (colOf p) := by
  funext j
  obtain ⟨b, k, rfl⟩ : ∃ (b : Fin 16) (k : Fin 100), j = ix2 b k := ⟨j 0, j 1, eq_ix2 j⟩
  obtain ⟨n, hn, hj⟩ := hp (ix2 b k)
  exact (refPick_at x ch (cellOf p) b k ⟨n % 16384, by omega⟩ (rem16384 _ p _ hj (by omega))).trans (pick_at x ch p b k hj hn).symm

/-- The reference's minus one, the negation of one, is the kernel's. -/
theorem minusOne_eq (h : S_.BroadcastsInDim S16x100x1 (![] : Fin 0 → Fin S16x100x1.rank)) :
    Host.negf (F := Ideal) (broadcastInDim S16x100x1 ![] h (constant S_ .f32 0x3F800000#32)) = minusOne := by
  funext i
  have e : -(Ideal.ofBits .f32 0x3F800000#32) = Ideal.ofBits .f32 0xBF800000#32 := by
    have e1 : Ideal.ofBits .f32 0x3F800000#32 = 1 := IdealRules.sign_bit.ideal_onePat .f32
    have e2 : Ideal.ofBits .f32 0xBF800000#32 = -1 := IdealRules.sign_bit.ideal_negOnePat .f32
    rw [e1, e2]
  exact e

/-- The scores the reference's top-k reads are the kernel's. -/
theorem scores_eq (V : Valuation τ sig (Elt Ideal)) : Value.res_main_v4 V = heatScores (V (Proc.devRef .tc main_arg0)) :=
  congrArg (fun y => shapeCast S16x1310720 y shapeCasts_S16x80x128x128_S16x1310720)
    (planes_eq (V (Proc.devRef .tc main_arg0)) bcast_S_S_ reduceWindows_S16x80x128x128_S16x80x128x128_w1s1p0_0_w1s1p0_0_w3s1p1_1_w3s1p1_1 h_S_
      bcast_S_S16x80x128x128 _ _).symm

/-- The reference's boxes before the mask are the kernel's. -/
theorem box_eq (V : Valuation τ sig (Elt Ideal)) : Value.res_main_v150 V
    = boxOf (V (Proc.devRef .tc main_arg1)) (V (Proc.devRef .tc main_arg2)) (top (heatScores (V (Proc.devRef .tc main_arg0)))).2 := by
  rw [← scores_eq]
  have hp := top_position (Value.res_main_v4 V)
  unfold boxOf
  have e1 := refPick_eq (V (Proc.devRef .tc main_arg1)) 0 _ hp
  have e2 := refPick_eq (V (Proc.devRef .tc main_arg1)) 1 _ hp
  have e3 := refPick_eq (V (Proc.devRef .tc main_arg2)) 0 _ hp
  have e4 := refPick_eq (V (Proc.devRef .tc main_arg2)) 1 _ hp
  refine Eq.trans ?_ (congr (congr (congr (congrArg (box _ _) e1) e2) e3) e4)
  rfl

/-- A masked box, component by component: the reference masks each component by itself and joins them after. -/
theorem masked_eq (c : IVec S16x100x1 1) (y : FVec Ideal S16x100x4 .f32) :
    mulf (concatenate S16x100x4 2 [
        ⟨S16x100x1, select c (extractStridedSlice S16x100x1 ![0, 0, 0] y slices_S16x100x4_S16x100x1_0_0_0) minusOne⟩,
        ⟨S16x100x1, select c (extractStridedSlice S16x100x1 ![0, 0, 1] y slices_S16x100x4_S16x100x1_0_0_1) minusOne⟩,
        ⟨S16x100x1, select c (extractStridedSlice S16x100x1 ![0, 0, 2] y slices_S16x100x4_S16x100x1_0_0_2) minusOne⟩,
        ⟨S16x100x1, select c (extractStridedSlice S16x100x1 ![0, 0, 3] y slices_S16x100x4_S16x100x1_0_0_3) minusOne⟩]
        concatenates_S16x100x1_S16x100x1_S16x100x1_S16x100x1_S16x100x4_d2)
      (broadcastInDim S16x100x4 ![] bcast_S_S16x100x4 (constant S_ .f32 0x40800000#32)) = masked c y := by
  unfold masked
  refine congrArg (fun z => mulf z _) (funext fun j => ?_)
  obtain ⟨b, k, d, rfl⟩ : ∃ (b : Fin 16) (k : Fin 100) (d : Fin 4), j = ix3 b k d := ⟨j 0, j 1, j 2, eq_ix3 j⟩
  unfold minusOne
  have hd : d = 0 ∨ d = 1 ∨ d = 2 ∨ d = 3 := by omega
  rcases hd with rfl | rfl | rfl | rfl
  · pointwise []
  · pointwise []
  · pointwise []
  · pointwise []

end Cert.Detect

end
-- ==== Proof.Runs.lean ====
/- The two runs: what the kernel and the reference leave in their results, over the launched arguments. -/
module

public import proofs.«01_k».proof.Proof.Results

@[expose] public section

set_option maxRecDepth 16384

noncomputable section

namespace Cert.Detect

open Idealize.ShloMosaic Idealize.ShloMosaic.TcCoe Idealize.SL.Sem Routing

section Kernel
open Cert.KernelIdeal Cert.KernelIdeal.Gen

variable (m : (ℓ : Loc nD τ sig) → Buf (Elt Ideal) ℓ) (ρ : Dev nD → PrngReg)

/-- The contents when the region ends: its arrays as it leaves them, all else as it found them. -/
def atExit (c : Dev nD) : Valuation τ sig (Elt Ideal) :=
  Pipeline.withArrays spec0 c (V0 m c) fun w => (dats m 0 c).arrAt w (cfgs 0).N

/-- What the lines after the region leave is the three stretches of them in order. -/
theorem tail_eq (c : Dev nD) (b : Ref sig .tc) :
    Pipeline.afterTail₀ cfgs (dats m) 0 (V0 m) [hostOps1, hostOps1_1, hostOps1_2, hostOps1_3, hostOps1_4, hostOps1_5, hostOps1_6, hostOps1_7, hostOps1_8, hostOps1_9, hostOps1_10, hostOps1_11, hostOps1_12, hostOps1_13, hostOps1_14] c b = last (long (mid (atExit m c))) (Proc.devRef .tc b) := by
  unfold Pipeline.afterTail₀ last long mid atExit
  rw [List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_cons, List.flatten_nil, List.append_nil, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append]

/-- The array the region reads is the heat map with batch and class merged. -/
theorem entry_v0 (c : Dev nD) :
    V m c main_v0 = shapeCast S1280x128x128 (m ((c : Thread nD τ).loc main_arg0)) shapeCasts_S16x80x128x128_S1280x128x128 := by
  unfold V V0
  simp only [List.flatten_cons, List.flatten_nil, List.append_nil]
  after_results_simp
  rfl

/-- The region leaves the filtered planes. -/
theorem atExit_v1 (c : Dev nD) : atExit m c (Proc.devRef .tc main_v1)
    = planes (shapeCast S1280x128x128 (m ((c : Thread nD τ).loc main_arg0)) shapeCasts_S16x80x128x128_S1280x128x128) :=
  (Pipeline.withArrays_arr spec0 (by decide) c (V0 m c) (fun w => (dats m 0 c).arrAt w (cfgs 0).N) 1).trans
    ((final m c).trans (congrArg planes (entry_v0 m c)))

/-- The region leaves the offset map as launched, -/
theorem atExit_arg1 (c : Dev nD) : atExit m c (Proc.devRef .tc main_arg1) = m ((c : Thread nD τ).loc main_arg1) :=
  (Pipeline.withArrays_of_ne spec0 c (V0 m c) _ main_arg1 (by decide)).trans (V_main_arg1 m c)

/-- and the size map. -/
theorem atExit_arg2 (c : Dev nD) : atExit m c (Proc.devRef .tc main_arg2) = m ((c : Thread nD τ).loc main_arg2) :=
  (Pipeline.withArrays_of_ne spec0 c (V0 m c) _ main_arg2 (by decide)).trans (V_main_arg2 m c)

/-- Every run of the kernel ends with the classes, the kept scores and the boxes of its arguments, the arguments as launched. -/
theorem kernel_run : θ_run defs (onTc (τ := τ) (main (F := Ideal))) ⟨m, fun _ => 0, ρ⟩ fun r => ∀ c : Dev nD,
    r.2.mem ((c.tc : Thread nD τ).loc main_v132) = classes (m ((c.tc : Thread nD τ).loc main_arg0))
    ∧ r.2.mem ((c.tc : Thread nD τ).loc main_v133) = kept (m ((c.tc : Thread nD τ).loc main_arg0))
    ∧ r.2.mem ((c.tc : Thread nD τ).loc main_v136)
      = boxes (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun _ h c => ⟨?_, ?_, ?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩) (run_main m ρ)
  · refine (((h c).2 main_v132 (Pipeline.mem_restRefs_of main_v132 (by decide) (by decide))).trans (tail_eq m c main_v132)).trans ?_
    rw [tail_v132, atExit_v1]
    rfl
  · refine (((h c).2 main_v133 (Pipeline.mem_restRefs_of main_v133 (by decide) (by decide))).trans (tail_eq m c main_v133)).trans ?_
    rw [tail_v133, atExit_v1]
    rfl
  · refine (((h c).2 main_v136 (Pipeline.mem_restRefs_of main_v136 (by decide) (by decide))).trans (tail_eq m c main_v136)).trans ?_
    rw [tail_v136, atExit_v1, atExit_arg1, atExit_arg2]
    rfl

end Kernel

section Reference
open Cert.ReferenceIdeal Cert.ReferenceIdeal.Gen

variable (m : (ℓ : Loc nD τ sig) → Buf (Elt Ideal) ℓ) (ρ : Dev nD → PrngReg)

/-- Every run of the reference ends with the same functions of its arguments, the arguments as launched. -/
theorem reference_run : θ_run defs (onTc (τ := τ) (main (F := Ideal))) ⟨m, fun _ => 0, ρ⟩ fun r => ∀ c : Dev nD,
    r.2.mem ((c.tc : Thread nD τ).loc main_v155) = classes (m ((c.tc : Thread nD τ).loc main_arg0))
    ∧ r.2.mem ((c.tc : Thread nD τ).loc main_v158) = kept (m ((c.tc : Thread nD τ).loc main_arg0))
    ∧ r.2.mem ((c.tc : Thread nD τ).loc main_v181)
      = boxes (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun _ h c => ?_) (Value.run m ρ)
  obtain ⟨h1, h2, h3, h4⟩ := h c
  have es := scores_eq (StableHlo.launchContents m c)
  refine ⟨h1.trans ?_, h2.trans ?_, h3.trans ?_, h4⟩
  · rw [minusOne_eq]
    refine Eq.trans ?_ (congrArg (fun s => select (passes (top s).1) (classOf (top s).2) minusOne) es)
    rfl
  · rw [minusOne_eq]
    refine Eq.trans ?_ (congrArg (fun s => select (passes (top s).1) (scoreOf (top s).1) minusOne) es)
    rfl
  · rw [minusOne_eq]
    refine (masked_eq _ _).trans ?_
    refine congr (congrArg masked ?_) (box_eq (StableHlo.launchContents m c))
    refine Eq.trans ?_ (congrArg (fun s => passes (top s).1) es)
    rfl

end Reference

end Cert.Detect

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Runs
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs to the end with its arguments unchanged. -/
theorem frame_Kernel : Cert.quiescent_Kernel := fun m ρ _ => Cert.Kernel.Gen.frame m ρ

/-- So does the kernel over the idealized operations. -/
theorem frame_KernelIdeal : Cert.quiescent_KernelIdeal := fun m ρ _ => Cert.KernelIdeal.Gen.frame m ρ

/-- So does the reference. -/
theorem frame_ReferenceIdeal : Cert.quiescent_ReferenceIdeal := by
  intro m g _
  hlo_run
  · exact fun _ => ⟨trivial, trivial, trivial⟩
  · exact sem_eq_zero_of_no_sems (sig := Cert.ReferenceIdeal.sig) rfl _

/-- From the same arguments the kernel and the reference end with the same three results: the classes, the scores and the boxes. -/
theorem algebraic : Cert.algebraic_KernelIdeal_ReferenceIdeal := by
  intro m g m' g' _ hagree
  refine ⟨_, _, _, Cert.Detect.kernel_run m g, (θ_run Cert.ReferenceIdeal.defs _ _).mono (fun r h c => ?_) (Cert.Detect.reference_run m' g')⟩
  obtain ⟨h1, h2, h3, h4⟩ := h c
  obtain ⟨a0, a1, a2⟩ := hagree c
  exact ⟨h1.trans (congrArg Cert.Detect.classes a0), h2.trans (congrArg Cert.Detect.kept a0),
    h3.trans (congr (congr (congrArg Cert.Detect.boxes a0) a1) a2), h4⟩

/-- All five claims. -/
theorem claim : Cert.Claim := ⟨Cert.Kernel.Gen.facts, Cert.KernelIdeal.Gen.facts, Cert.ReferenceIdeal.Gen.facts, frame_Kernel, frame_KernelIdeal,
  frame_ReferenceIdeal, trivial, algebraic⟩

end Cert.Proof

end
